-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![1536, 6144]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 1536]⟩ ⟨2, ![6144, 1536]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x768 : Shape := ⟨2, ![1536, 768]⟩
abbrev S768x1536 : Shape := ⟨2, ![768, 1536]⟩
abbrev S1536x1536 : Shape := ⟨2, ![1536, 1536]⟩
abbrev S1344x1536 : Shape := ⟨2, ![1344, 1536]⟩
abbrev S36 : Shape := ⟨1, ![36]⟩
abbrev S_ : Shape := ⟨0, ![]⟩
abbrev S768x256 : Shape := ⟨2, ![768, 256]⟩
abbrev S768x768 : Shape := ⟨2, ![768, 768]⟩
abbrev S1 : Shape := ⟨1, ![1]⟩
abbrev S384x256 : Shape := ⟨2, ![384, 256]⟩
abbrev S192x256 : Shape := ⟨2, ![192, 256]⟩

abbrev nBuf : Space → Nat
  | .hbm => 3
  | .vmem => 6
  | .smem => 0
  | _ => 0

abbrev bufTy : (tb : Table) → Fin (tcTables nBuf tb) → BufTy
  | .hbm, ⟨0, _⟩ => ⟨S1536x768, .bf16⟩
  | .hbm, ⟨1, _⟩ => ⟨S768x1536, .bf16⟩
  | .hbm, ⟨2, _⟩ => ⟨S1536x1536, .bf16⟩
  | .local _ .vmem, ⟨0, _⟩ => ⟨S1536x768, .bf16⟩
  | .local _ .vmem, ⟨1, _⟩ => ⟨S768x1536, .bf16⟩
  | .local _ .vmem, ⟨2, _⟩ => ⟨S1536x1536, .bf16⟩
  | .local _ .vmem, ⟨3, _⟩ => ⟨S1536x768, .bf16⟩
  | .local _ .vmem, ⟨4, _⟩ => ⟨S768x1536, .bf16⟩
  | .local _ .vmem, ⟨5, _⟩ => ⟨S1344x1536, .bf16⟩
  | _, _ => ⟨S1536x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  (ofTc nBuf bufTy 1 75 bufScoped semScoped dmaSemScoped tileCredit tileCredit_eq_zero tileCredit_pos).withBarriers [(5, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier5 : Sem sig := 0

abbrev nD : Nat := 8
abbrev τ : Topo := Topo.v7x

variable {F : FTy → Type} [FloatOps F]

abbrev grid0 : Pipeline.Grid := .none

def k0_dev1 (d0 : Dev nD) : Nat :=
  let c0_i32_97 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v9 : BitVec 32 := Scalar.xori v2 c4_i32
  let c1_i32_96 : BitVec 32 := 1#32
  let v145 : BitVec 32 := Scalar.muli v9 c1_i32_96
  let v146 : BitVec 32 := Scalar.addi c0_i32_97 v145
  v146.toNat
def k0_dev2 (d0 : Dev nD) : Nat :=
  let c0_i32_100 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_4 : BitVec 32 := 4#32
  let v10 : BitVec 32 := Scalar.andi v2 c4_i32_4
  let c3_i32 : BitVec 32 := 3#32
  let v11 : BitVec 32 := Scalar.andi v2 c3_i32
  let c1_i32_5 : BitVec 32 := 1#32
  let v12 : BitVec 32 := Scalar.xori v11 c1_i32_5
  let v13 : BitVec 32 := Scalar.ori v10 v12
  let c1_i32_99 : BitVec 32 := 1#32
  let v147 : BitVec 32 := Scalar.muli v13 c1_i32_99
  let v148 : BitVec 32 := Scalar.addi c0_i32_100 v147
  v148.toNat
def k0_dev3 (d0 : Dev nD) : Nat :=
  let c0_i32_103 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_6 : BitVec 32 := 4#32
  let v14 : BitVec 32 := Scalar.andi v2 c4_i32_6
  let c3_i32_8 : BitVec 32 := 3#32
  let c3_i32_7 : BitVec 32 := 3#32
  let v15 : BitVec 32 := Scalar.andi v2 c3_i32_7
  let v16 : BitVec 32 := Scalar.subi c3_i32_8 v15
  let v17 : BitVec 32 := Scalar.ori v14 v16
  let c1_i32_102 : BitVec 32 := 1#32
  let v149 : BitVec 32 := Scalar.muli v17 c1_i32_102
  let v150 : BitVec 32 := Scalar.addi c0_i32_103 v149
  v150.toNat
def k0_off1 (d0 : Dev nD) (c2_i32 : BitVec 32) : Fin 2 → Nat :=
  let c0_i32 : BitVec 32 := 0#32
  let c1_i32_9 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.shrsi v2 c2_i32
  let c1_i32_0 : BitVec 32 := 1#32
  let v4 : BitVec 32 := Scalar.andi v3 c1_i32_0
  let v18 : BitVec 32 := Scalar.subi c1_i32_9 v4
  let c768_i32 : BitVec 32 := 768#32
  let v19 : BitVec 32 := Scalar.muli v18 c768_i32
  let v20 : BitVec 32 := Scalar.addi c0_i32 v19
  let v161 : Index := Scalar.indexCast v20
  let c0_112 : Index := 0#32
  ![v161.toNat, 0]
def k0_off2 (d0 : Dev nD) : Fin 2 → Nat :=
  let c0_i32 : BitVec 32 := 0#32
  let c1_i32_9 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let v18 : BitVec 32 := Scalar.subi c1_i32_9 v4
  let c768_i32 : BitVec 32 := 768#32
  let v19 : BitVec 32 := Scalar.muli v18 c768_i32
  let v20 : BitVec 32 := Scalar.addi c0_i32 v19
  let v166 : Index := Scalar.indexCast v20
  let c0_115 : Index := 0#32
  ![v166.toNat, 0]
def k0_off3 (d0 : Dev nD) : Fin 2 → Nat :=
  let c0_i32 : BitVec 32 := 0#32
  let c1_i32_9 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let v18 : BitVec 32 := Scalar.subi c1_i32_9 v4
  let c768_i32 : BitVec 32 := 768#32
  let v19 : BitVec 32 := Scalar.muli v18 c768_i32
  let v20 : BitVec 32 := Scalar.addi c0_i32 v19
  let c0_i32_122 : BitVec 32 := 0#32
  ![v20.toNat, 0]
def k0_dev4 (d0 : Dev nD) : Nat :=
  let c0_i32_119 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v9 : BitVec 32 := Scalar.xori v2 c4_i32
  let c1_i32_118 : BitVec 32 := 1#32
  let v168 : BitVec 32 := Scalar.muli v9 c1_i32_118
  let v169 : BitVec 32 := Scalar.addi c0_i32_119 v168
  v169.toNat
def k0_off4 (d0 : Dev nD) (c2_i32 : BitVec 32) : Fin 2 → Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.shrsi v2 c2_i32
  let c1_i32_0 : BitVec 32 := 1#32
  let v4 : BitVec 32 := Scalar.andi v3 c1_i32_0
  let c768_i32_10 : BitVec 32 := 768#32
  let v21 : BitVec 32 := Scalar.muli v4 c768_i32_10
  let v22 : BitVec 32 := Scalar.addi c0_i32_11 v21
  let v176 : Index := Scalar.indexCast v22
  let c0_123 : Index := 0#32
  ![v176.toNat, 0]
def k0_off5 (d0 : Dev nD) : Fin 2 → Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c768_i32_10 : BitVec 32 := 768#32
  let v21 : BitVec 32 := Scalar.muli v4 c768_i32_10
  let v22 : BitVec 32 := Scalar.addi c0_i32_11 v21
  let v181 : Index := Scalar.indexCast v22
  let c0_127 : Index := 0#32
  ![v181.toNat, 0]
def k0_off6 (d0 : Dev nD) : Fin 2 → Nat :=
  let c0_i32_22 : BitVec 32 := 0#32
  let c1_i32_20 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let v39 : BitVec 32 := Scalar.subi c1_i32_20 v8
  let c768_i32_21 : BitVec 32 := 768#32
  let v40 : BitVec 32 := Scalar.muli v39 c768_i32_21
  let v41 : BitVec 32 := Scalar.addi c0_i32_22 v40
  let v188 : Index := Scalar.indexCast v41
  let c0_131 : Index := 0#32
  ![v188.toNat, 0]
def k0_off7 (d0 : Dev nD) : Fin 2 → Nat :=
  let c0_i32_22 : BitVec 32 := 0#32
  let c1_i32_20 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let v39 : BitVec 32 := Scalar.subi c1_i32_20 v8
  let c768_i32_21 : BitVec 32 := 768#32
  let v40 : BitVec 32 := Scalar.muli v39 c768_i32_21
  let v41 : BitVec 32 := Scalar.addi c0_i32_22 v40
  let v193 : Index := Scalar.indexCast v41
  let c256_135 : Index := 256#32
  ![v193.toNat, 256]
def k0_off8 (d0 : Dev nD) : Fin 2 → Nat :=
  let c0_i32_22 : BitVec 32 := 0#32
  let c1_i32_20 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let v39 : BitVec 32 := Scalar.subi c1_i32_20 v8
  let c768_i32_21 : BitVec 32 := 768#32
  let v40 : BitVec 32 := Scalar.muli v39 c768_i32_21
  let v41 : BitVec 32 := Scalar.addi c0_i32_22 v40
  let c256_i32_141 : BitVec 32 := 256#32
  ![v41.toNat, 256]
def k0_dev5 (d0 : Dev nD) : Nat :=
  let c0_i32_139 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_4 : BitVec 32 := 4#32
  let v10 : BitVec 32 := Scalar.andi v2 c4_i32_4
  let c3_i32 : BitVec 32 := 3#32
  let v11 : BitVec 32 := Scalar.andi v2 c3_i32
  let c1_i32_5 : BitVec 32 := 1#32
  let v12 : BitVec 32 := Scalar.xori v11 c1_i32_5
  let v13 : BitVec 32 := Scalar.ori v10 v12
  let c1_i32_138 : BitVec 32 := 1#32
  let v195 : BitVec 32 := Scalar.muli v13 c1_i32_138
  let v196 : BitVec 32 := Scalar.addi c0_i32_139 v195
  v196.toNat
def k0_off9 (d0 : Dev nD) : Fin 2 → Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c768_i32_23 : BitVec 32 := 768#32
  let v42 : BitVec 32 := Scalar.muli v8 c768_i32_23
  let v43 : BitVec 32 := Scalar.addi c0_i32_24 v42
  let v203 : Index := Scalar.indexCast v43
  let c0_142 : Index := 0#32
  ![v203.toNat, 0]
def k0_off10 (d0 : Dev nD) : Fin 2 → Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c768_i32_23 : BitVec 32 := 768#32
  let v42 : BitVec 32 := Scalar.muli v8 c768_i32_23
  let v43 : BitVec 32 := Scalar.addi c0_i32_24 v42
  let v208 : Index := Scalar.indexCast v43
  let c256_146 : Index := 256#32
  ![v208.toNat, 256]
def k0_off11 (d0 : Dev nD) : Fin 2 → Nat :=
  let c0_i32_37 : BitVec 32 := 0#32
  let c1_i32_35 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let v60 : BitVec 32 := Scalar.subi c1_i32_35 v6
  let c768_i32_36 : BitVec 32 := 768#32
  let v61 : BitVec 32 := Scalar.muli v60 c768_i32_36
  let v62 : BitVec 32 := Scalar.addi c0_i32_37 v61
  let v220 : Index := Scalar.indexCast v62
  let c512_154 : Index := 512#32
  ![v220.toNat, 512]
def k0_off12 (d0 : Dev nD) : Fin 2 → Nat :=
  let c0_i32_37 : BitVec 32 := 0#32
  let c1_i32_35 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let v60 : BitVec 32 := Scalar.subi c1_i32_35 v6
  let c768_i32_36 : BitVec 32 := 768#32
  let v61 : BitVec 32 := Scalar.muli v60 c768_i32_36
  let v62 : BitVec 32 := Scalar.addi c0_i32_37 v61
  let c512_i32_160 : BitVec 32 := 512#32
  ![v62.toNat, 512]
def k0_dev6 (d0 : Dev nD) : Nat :=
  let c0_i32_158 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_6 : BitVec 32 := 4#32
  let v14 : BitVec 32 := Scalar.andi v2 c4_i32_6
  let c3_i32_8 : BitVec 32 := 3#32
  let c3_i32_7 : BitVec 32 := 3#32
  let v15 : BitVec 32 := Scalar.andi v2 c3_i32_7
  let v16 : BitVec 32 := Scalar.subi c3_i32_8 v15
  let v17 : BitVec 32 := Scalar.ori v14 v16
  let c1_i32_157 : BitVec 32 := 1#32
  let v222 : BitVec 32 := Scalar.muli v17 c1_i32_157
  let v223 : BitVec 32 := Scalar.addi c0_i32_158 v222
  v223.toNat
def k0_off13 (d0 : Dev nD) : Fin 2 → Nat :=
  let c0_i32_39 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c768_i32_38 : BitVec 32 := 768#32
  let v63 : BitVec 32 := Scalar.muli v6 c768_i32_38
  let v64 : BitVec 32 := Scalar.addi c0_i32_39 v63
  let v235 : Index := Scalar.indexCast v64
  let c512_165 : Index := 512#32
  ![v235.toNat, 512]
def k0_off14 (d0 : Dev nD) : Fin 2 → Nat :=
  let c0_i32_52 : BitVec 32 := 0#32
  let c1_i32_50 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let v81 : BitVec 32 := Scalar.subi c1_i32_50 v4
  let c768_i32_51 : BitVec 32 := 768#32
  let v82 : BitVec 32 := Scalar.muli v81 c768_i32_51
  let v83 : BitVec 32 := Scalar.addi c0_i32_52 v82
  let v247 : Index := Scalar.indexCast v83
  let c768_173 : Index := 768#32
  ![v247.toNat, 768]
def k0_off15 (d0 : Dev nD) : Fin 2 → Nat :=
  let c0_i32_52 : BitVec 32 := 0#32
  let c1_i32_50 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let v81 : BitVec 32 := Scalar.subi c1_i32_50 v4
  let c768_i32_51 : BitVec 32 := 768#32
  let v82 : BitVec 32 := Scalar.muli v81 c768_i32_51
  let v83 : BitVec 32 := Scalar.addi c0_i32_52 v82
  let c768_i32_180 : BitVec 32 := 768#32
  ![v83.toNat, 768]
def k0_dev7 (d0 : Dev nD) : Nat :=
  let c0_i32_177 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v9 : BitVec 32 := Scalar.xori v2 c4_i32
  let c1_i32_176 : BitVec 32 := 1#32
  let v249 : BitVec 32 := Scalar.muli v9 c1_i32_176
  let v250 : BitVec 32 := Scalar.addi c0_i32_177 v249
  v250.toNat
def k0_off16 (d0 : Dev nD) : Fin 2 → Nat :=
  let c0_i32_54 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c768_i32_53 : BitVec 32 := 768#32
  let v84 : BitVec 32 := Scalar.muli v4 c768_i32_53
  let v85 : BitVec 32 := Scalar.addi c0_i32_54 v84
  let v262 : Index := Scalar.indexCast v85
  let c768_185 : Index := 768#32
  ![v262.toNat, 768]
def k0_off17 (d0 : Dev nD) : Fin 2 → Nat :=
  let c0_i32_67 : BitVec 32 := 0#32
  let c1_i32_65 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let v102 : BitVec 32 := Scalar.subi c1_i32_65 v8
  let c768_i32_66 : BitVec 32 := 768#32
  let v103 : BitVec 32 := Scalar.muli v102 c768_i32_66
  let v104 : BitVec 32 := Scalar.addi c0_i32_67 v103
  let v274 : Index := Scalar.indexCast v104
  let c1024_193 : Index := 1024#32
  ![v274.toNat, 1024]
def k0_off18 (d0 : Dev nD) : Fin 2 → Nat :=
  let c0_i32_67 : BitVec 32 := 0#32
  let c1_i32_65 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let v102 : BitVec 32 := Scalar.subi c1_i32_65 v8
  let c768_i32_66 : BitVec 32 := 768#32
  let v103 : BitVec 32 := Scalar.muli v102 c768_i32_66
  let v104 : BitVec 32 := Scalar.addi c0_i32_67 v103
  let c1024_i32_199 : BitVec 32 := 1024#32
  ![v104.toNat, 1024]
def k0_dev8 (d0 : Dev nD) : Nat :=
  let c0_i32_197 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_4 : BitVec 32 := 4#32
  let v10 : BitVec 32 := Scalar.andi v2 c4_i32_4
  let c3_i32 : BitVec 32 := 3#32
  let v11 : BitVec 32 := Scalar.andi v2 c3_i32
  let c1_i32_5 : BitVec 32 := 1#32
  let v12 : BitVec 32 := Scalar.xori v11 c1_i32_5
  let v13 : BitVec 32 := Scalar.ori v10 v12
  let c1_i32_196 : BitVec 32 := 1#32
  let v276 : BitVec 32 := Scalar.muli v13 c1_i32_196
  let v277 : BitVec 32 := Scalar.addi c0_i32_197 v276
  v277.toNat
def k0_off19 (d0 : Dev nD) : Fin 2 → Nat :=
  let c0_i32_69 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c768_i32_68 : BitVec 32 := 768#32
  let v105 : BitVec 32 := Scalar.muli v8 c768_i32_68
  let v106 : BitVec 32 := Scalar.addi c0_i32_69 v105
  let v289 : Index := Scalar.indexCast v106
  let c1024_204 : Index := 1024#32
  ![v289.toNat, 1024]
def k0_off20 (d0 : Dev nD) : Fin 2 → Nat :=
  let c0_i32_82 : BitVec 32 := 0#32
  let c1_i32_80 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let v123 : BitVec 32 := Scalar.subi c1_i32_80 v6
  let c768_i32_81 : BitVec 32 := 768#32
  let v124 : BitVec 32 := Scalar.muli v123 c768_i32_81
  let v125 : BitVec 32 := Scalar.addi c0_i32_82 v124
  let v301 : Index := Scalar.indexCast v125
  let c1280_212 : Index := 1280#32
  ![v301.toNat, 1280]
def k0_off21 (d0 : Dev nD) : Fin 2 → Nat :=
  let c0_i32_82 : BitVec 32 := 0#32
  let c1_i32_80 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let v123 : BitVec 32 := Scalar.subi c1_i32_80 v6
  let c768_i32_81 : BitVec 32 := 768#32
  let v124 : BitVec 32 := Scalar.muli v123 c768_i32_81
  let v125 : BitVec 32 := Scalar.addi c0_i32_82 v124
  let c1280_i32_217 : BitVec 32 := 1280#32
  ![v125.toNat, 1280]
def k0_dev9 (d0 : Dev nD) : Nat :=
  let c0_i32_215 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_6 : BitVec 32 := 4#32
  let v14 : BitVec 32 := Scalar.andi v2 c4_i32_6
  let c3_i32_8 : BitVec 32 := 3#32
  let c3_i32_7 : BitVec 32 := 3#32
  let v15 : BitVec 32 := Scalar.andi v2 c3_i32_7
  let v16 : BitVec 32 := Scalar.subi c3_i32_8 v15
  let v17 : BitVec 32 := Scalar.ori v14 v16
  let c1_i32_214 : BitVec 32 := 1#32
  let v303 : BitVec 32 := Scalar.muli v17 c1_i32_214
  let v304 : BitVec 32 := Scalar.addi c0_i32_215 v303
  v304.toNat
def k0_off22 (d0 : Dev nD) : Fin 2 → Nat :=
  let c0_i32_84 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c768_i32_83 : BitVec 32 := 768#32
  let v126 : BitVec 32 := Scalar.muli v6 c768_i32_83
  let v127 : BitVec 32 := Scalar.addi c0_i32_84 v126
  let v316 : Index := Scalar.indexCast v127
  let c1280_222 : Index := 1280#32
  ![v316.toNat, 1280]
def k0_off23 (d0 : Dev nD) : Fin 2 → Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c768_i32_12 : BitVec 32 := 768#32
  let v23 : BitVec 32 := Scalar.muli v4 c768_i32_12
  let v24 : BitVec 32 := Scalar.addi c0_i32_13 v23
  let c1_i32_14 : BitVec 32 := 1#32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let v25 : BitVec 32 := Scalar.subi c1_i32_14 v8
  let c384_i32 : BitVec 32 := 384#32
  let v26 : BitVec 32 := Scalar.muli v25 c384_i32
  let v27 : BitVec 32 := Scalar.addi v24 v26
  let v328 : Index := Scalar.indexCast v27
  let c0_232 : Index := 0#32
  ![v328.toNat, 0]
def k0_off24 (d0 : Dev nD) : Fin 2 → Nat :=
  let c0_i32_230 : BitVec 32 := 0#32
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c768_i32_12 : BitVec 32 := 768#32
  let v23 : BitVec 32 := Scalar.muli v4 c768_i32_12
  let v24 : BitVec 32 := Scalar.addi c0_i32_13 v23
  let c1_i32_14 : BitVec 32 := 1#32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let v25 : BitVec 32 := Scalar.subi c1_i32_14 v8
  let c384_i32 : BitVec 32 := 384#32
  let v26 : BitVec 32 := Scalar.muli v25 c384_i32
  let v27 : BitVec 32 := Scalar.addi v24 v26
  let c0_i32_11 : BitVec 32 := 0#32
  let c768_i32_10 : BitVec 32 := 768#32
  let v21 : BitVec 32 := Scalar.muli v4 c768_i32_10
  let v22 : BitVec 32 := Scalar.addi c0_i32_11 v21
  let v324 : BitVec 32 := Scalar.subi v27 v22
  let v325 : BitVec 32 := Scalar.addi c0_i32_230 v324
  let v331 : Index := Scalar.indexCast v325
  let c0_233 : Index := 0#32
  ![v331.toNat, 0]
def k0_off25 (d0 : Dev nD) : Fin 2 → Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c768_i32_12 : BitVec 32 := 768#32
  let v23 : BitVec 32 := Scalar.muli v4 c768_i32_12
  let v24 : BitVec 32 := Scalar.addi c0_i32_13 v23
  let c1_i32_14 : BitVec 32 := 1#32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let v25 : BitVec 32 := Scalar.subi c1_i32_14 v8
  let c384_i32 : BitVec 32 := 384#32
  let v26 : BitVec 32 := Scalar.muli v25 c384_i32
  let v27 : BitVec 32 := Scalar.addi v24 v26
  let c0_i32_240 : BitVec 32 := 0#32
  ![v27.toNat, 0]
def k0_dev10 (d0 : Dev nD) : Nat :=
  let c0_i32_237 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_4 : BitVec 32 := 4#32
  let v10 : BitVec 32 := Scalar.andi v2 c4_i32_4
  let c3_i32 : BitVec 32 := 3#32
  let v11 : BitVec 32 := Scalar.andi v2 c3_i32
  let c1_i32_5 : BitVec 32 := 1#32
  let v12 : BitVec 32 := Scalar.xori v11 c1_i32_5
  let v13 : BitVec 32 := Scalar.ori v10 v12
  let c1_i32_236 : BitVec 32 := 1#32
  let v336 : BitVec 32 := Scalar.muli v13 c1_i32_236
  let v337 : BitVec 32 := Scalar.addi c0_i32_237 v336
  v337.toNat
def k0_off26 (d0 : Dev nD) : Fin 2 → Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c768_i32_12 : BitVec 32 := 768#32
  let v23 : BitVec 32 := Scalar.muli v4 c768_i32_12
  let v24 : BitVec 32 := Scalar.addi c0_i32_13 v23
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c384_i32_15 : BitVec 32 := 384#32
  let v28 : BitVec 32 := Scalar.muli v8 c384_i32_15
  let v29 : BitVec 32 := Scalar.addi v24 v28
  let v344 : Index := Scalar.indexCast v29
  let c0_241 : Index := 0#32
  ![v344.toNat, 0]
def k0_off27 (d0 : Dev nD) : Fin 2 → Nat :=
  let c0_i32_231 : BitVec 32 := 0#32
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c768_i32_12 : BitVec 32 := 768#32
  let v23 : BitVec 32 := Scalar.muli v4 c768_i32_12
  let v24 : BitVec 32 := Scalar.addi c0_i32_13 v23
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c384_i32_15 : BitVec 32 := 384#32
  let v28 : BitVec 32 := Scalar.muli v8 c384_i32_15
  let v29 : BitVec 32 := Scalar.addi v24 v28
  let c0_i32_11 : BitVec 32 := 0#32
  let c768_i32_10 : BitVec 32 := 768#32
  let v21 : BitVec 32 := Scalar.muli v4 c768_i32_10
  let v22 : BitVec 32 := Scalar.addi c0_i32_11 v21
  let v326 : BitVec 32 := Scalar.subi v29 v22
  let v327 : BitVec 32 := Scalar.addi c0_i32_231 v326
  let v347 : Index := Scalar.indexCast v327
  let c0_242 : Index := 0#32
  ![v347.toNat, 0]
def k0_off28 (d0 : Dev nD) : Fin 2 → Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c768_i32_25 : BitVec 32 := 768#32
  let v44 : BitVec 32 := Scalar.muli v8 c768_i32_25
  let v45 : BitVec 32 := Scalar.addi c0_i32_26 v44
  let c1_i32_27 : BitVec 32 := 1#32
  let v46 : BitVec 32 := Scalar.subi c1_i32_27 v6
  let c384_i32_28 : BitVec 32 := 384#32
  let v47 : BitVec 32 := Scalar.muli v46 c384_i32_28
  let v48 : BitVec 32 := Scalar.addi v45 v47
  let v362 : Index := Scalar.indexCast v48
  let c256_253 : Index := 256#32
  ![v362.toNat, 256]
def k0_off29 (d0 : Dev nD) : Fin 2 → Nat :=
  let c0_i32_251 : BitVec 32 := 0#32
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c768_i32_25 : BitVec 32 := 768#32
  let v44 : BitVec 32 := Scalar.muli v8 c768_i32_25
  let v45 : BitVec 32 := Scalar.addi c0_i32_26 v44
  let c1_i32_27 : BitVec 32 := 1#32
  let v46 : BitVec 32 := Scalar.subi c1_i32_27 v6
  let c384_i32_28 : BitVec 32 := 384#32
  let v47 : BitVec 32 := Scalar.muli v46 c384_i32_28
  let v48 : BitVec 32 := Scalar.addi v45 v47
  let c0_i32_24 : BitVec 32 := 0#32
  let c768_i32_23 : BitVec 32 := 768#32
  let v42 : BitVec 32 := Scalar.muli v8 c768_i32_23
  let v43 : BitVec 32 := Scalar.addi c0_i32_24 v42
  let v358 : BitVec 32 := Scalar.subi v48 v43
  let v359 : BitVec 32 := Scalar.addi c0_i32_251 v358
  let v365 : Index := Scalar.indexCast v359
  let c256_254 : Index := 256#32
  ![v365.toNat, 256]
def k0_off30 (d0 : Dev nD) : Fin 2 → Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c768_i32_25 : BitVec 32 := 768#32
  let v44 : BitVec 32 := Scalar.muli v8 c768_i32_25
  let v45 : BitVec 32 := Scalar.addi c0_i32_26 v44
  let c1_i32_27 : BitVec 32 := 1#32
  let v46 : BitVec 32 := Scalar.subi c1_i32_27 v6
  let c384_i32_28 : BitVec 32 := 384#32
  let v47 : BitVec 32 := Scalar.muli v46 c384_i32_28
  let v48 : BitVec 32 := Scalar.addi v45 v47
  let c256_i32_261 : BitVec 32 := 256#32
  ![v48.toNat, 256]
def k0_dev11 (d0 : Dev nD) : Nat :=
  let c0_i32_258 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_6 : BitVec 32 := 4#32
  let v14 : BitVec 32 := Scalar.andi v2 c4_i32_6
  let c3_i32_8 : BitVec 32 := 3#32
  let c3_i32_7 : BitVec 32 := 3#32
  let v15 : BitVec 32 := Scalar.andi v2 c3_i32_7
  let v16 : BitVec 32 := Scalar.subi c3_i32_8 v15
  let v17 : BitVec 32 := Scalar.ori v14 v16
  let c1_i32_257 : BitVec 32 := 1#32
  let v370 : BitVec 32 := Scalar.muli v17 c1_i32_257
  let v371 : BitVec 32 := Scalar.addi c0_i32_258 v370
  v371.toNat
def k0_off31 (d0 : Dev nD) : Fin 2 → Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c768_i32_25 : BitVec 32 := 768#32
  let v44 : BitVec 32 := Scalar.muli v8 c768_i32_25
  let v45 : BitVec 32 := Scalar.addi c0_i32_26 v44
  let c384_i32_29 : BitVec 32 := 384#32
  let v49 : BitVec 32 := Scalar.muli v6 c384_i32_29
  let v50 : BitVec 32 := Scalar.addi v45 v49
  let v378 : Index := Scalar.indexCast v50
  let c256_262 : Index := 256#32
  ![v378.toNat, 256]
def k0_off32 (d0 : Dev nD) : Fin 2 → Nat :=
  let c0_i32_252 : BitVec 32 := 0#32
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c768_i32_25 : BitVec 32 := 768#32
  let v44 : BitVec 32 := Scalar.muli v8 c768_i32_25
  let v45 : BitVec 32 := Scalar.addi c0_i32_26 v44
  let c384_i32_29 : BitVec 32 := 384#32
  let v49 : BitVec 32 := Scalar.muli v6 c384_i32_29
  let v50 : BitVec 32 := Scalar.addi v45 v49
  let c0_i32_24 : BitVec 32 := 0#32
  let c768_i32_23 : BitVec 32 := 768#32
  let v42 : BitVec 32 := Scalar.muli v8 c768_i32_23
  let v43 : BitVec 32 := Scalar.addi c0_i32_24 v42
  let v360 : BitVec 32 := Scalar.subi v50 v43
  let v361 : BitVec 32 := Scalar.addi c0_i32_252 v360
  let v381 : Index := Scalar.indexCast v361
  let c256_263 : Index := 256#32
  ![v381.toNat, 256]
def k0_off33 (d0 : Dev nD) : Fin 2 → Nat :=
  let c0_i32_41 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c768_i32_40 : BitVec 32 := 768#32
  let v65 : BitVec 32 := Scalar.muli v6 c768_i32_40
  let v66 : BitVec 32 := Scalar.addi c0_i32_41 v65
  let c1_i32_42 : BitVec 32 := 1#32
  let c2_i32 : BitVec 32 := 2#32
  let v3 : BitVec 32 := Scalar.shrsi v2 c2_i32
  let c1_i32_0 : BitVec 32 := 1#32
  let v4 : BitVec 32 := Scalar.andi v3 c1_i32_0
  let v67 : BitVec 32 := Scalar.subi c1_i32_42 v4
  let c384_i32_43 : BitVec 32 := 384#32
  let v68 : BitVec 32 := Scalar.muli v67 c384_i32_43
  let v69 : BitVec 32 := Scalar.addi v66 v68
  let v396 : Index := Scalar.indexCast v69
  let c512_274 : Index := 512#32
  ![v396.toNat, 512]
def k0_off34 (d0 : Dev nD) : Fin 2 → Nat :=
  let c0_i32_272 : BitVec 32 := 0#32
  let c0_i32_41 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c768_i32_40 : BitVec 32 := 768#32
  let v65 : BitVec 32 := Scalar.muli v6 c768_i32_40
  let v66 : BitVec 32 := Scalar.addi c0_i32_41 v65
  let c1_i32_42 : BitVec 32 := 1#32
  let c2_i32 : BitVec 32 := 2#32
  let v3 : BitVec 32 := Scalar.shrsi v2 c2_i32
  let c1_i32_0 : BitVec 32 := 1#32
  let v4 : BitVec 32 := Scalar.andi v3 c1_i32_0
  let v67 : BitVec 32 := Scalar.subi c1_i32_42 v4
  let c384_i32_43 : BitVec 32 := 384#32
  let v68 : BitVec 32 := Scalar.muli v67 c384_i32_43
  let v69 : BitVec 32 := Scalar.addi v66 v68
  let c0_i32_39 : BitVec 32 := 0#32
  let c768_i32_38 : BitVec 32 := 768#32
  let v63 : BitVec 32 := Scalar.muli v6 c768_i32_38
  let v64 : BitVec 32 := Scalar.addi c0_i32_39 v63
  let v392 : BitVec 32 := Scalar.subi v69 v64
  let v393 : BitVec 32 := Scalar.addi c0_i32_272 v392
  let v399 : Index := Scalar.indexCast v393
  let c512_275 : Index := 512#32
  ![v399.toNat, 512]
def k0_off35 (d0 : Dev nD) : Fin 2 → Nat :=
  let c0_i32_41 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c768_i32_40 : BitVec 32 := 768#32
  let v65 : BitVec 32 := Scalar.muli v6 c768_i32_40
  let v66 : BitVec 32 := Scalar.addi c0_i32_41 v65
  let c1_i32_42 : BitVec 32 := 1#32
  let c2_i32 : BitVec 32 := 2#32
  let v3 : BitVec 32 := Scalar.shrsi v2 c2_i32
  let c1_i32_0 : BitVec 32 := 1#32
  let v4 : BitVec 32 := Scalar.andi v3 c1_i32_0
  let v67 : BitVec 32 := Scalar.subi c1_i32_42 v4
  let c384_i32_43 : BitVec 32 := 384#32
  let v68 : BitVec 32 := Scalar.muli v67 c384_i32_43
  let v69 : BitVec 32 := Scalar.addi v66 v68
  let c512_i32_283 : BitVec 32 := 512#32
  ![v69.toNat, 512]
def k0_dev12 (d0 : Dev nD) : Nat :=
  let c0_i32_280 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v9 : BitVec 32 := Scalar.xori v2 c4_i32
  let c1_i32_279 : BitVec 32 := 1#32
  let v404 : BitVec 32 := Scalar.muli v9 c1_i32_279
  let v405 : BitVec 32 := Scalar.addi c0_i32_280 v404
  v405.toNat
def k0_off36 (d0 : Dev nD) : Fin 2 → Nat :=
  let c0_i32_41 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c768_i32_40 : BitVec 32 := 768#32
  let v65 : BitVec 32 := Scalar.muli v6 c768_i32_40
  let v66 : BitVec 32 := Scalar.addi c0_i32_41 v65
  let c2_i32 : BitVec 32 := 2#32
  let v3 : BitVec 32 := Scalar.shrsi v2 c2_i32
  let c1_i32_0 : BitVec 32 := 1#32
  let v4 : BitVec 32 := Scalar.andi v3 c1_i32_0
  let c384_i32_44 : BitVec 32 := 384#32
  let v70 : BitVec 32 := Scalar.muli v4 c384_i32_44
  let v71 : BitVec 32 := Scalar.addi v66 v70
  let v412 : Index := Scalar.indexCast v71
  let c512_284 : Index := 512#32
  ![v412.toNat, 512]
def k0_off37 (d0 : Dev nD) : Fin 2 → Nat :=
  let c0_i32_273 : BitVec 32 := 0#32
  let c0_i32_41 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c768_i32_40 : BitVec 32 := 768#32
  let v65 : BitVec 32 := Scalar.muli v6 c768_i32_40
  let v66 : BitVec 32 := Scalar.addi c0_i32_41 v65
  let c2_i32 : BitVec 32 := 2#32
  let v3 : BitVec 32 := Scalar.shrsi v2 c2_i32
  let c1_i32_0 : BitVec 32 := 1#32
  let v4 : BitVec 32 := Scalar.andi v3 c1_i32_0
  let c384_i32_44 : BitVec 32 := 384#32
  let v70 : BitVec 32 := Scalar.muli v4 c384_i32_44
  let v71 : BitVec 32 := Scalar.addi v66 v70
  let c0_i32_39 : BitVec 32 := 0#32
  let c768_i32_38 : BitVec 32 := 768#32
  let v63 : BitVec 32 := Scalar.muli v6 c768_i32_38
  let v64 : BitVec 32 := Scalar.addi c0_i32_39 v63
  let v394 : BitVec 32 := Scalar.subi v71 v64
  let v395 : BitVec 32 := Scalar.addi c0_i32_273 v394
  let v415 : Index := Scalar.indexCast v395
  let c512_285 : Index := 512#32
  ![v415.toNat, 512]
def k0_off38 (d0 : Dev nD) : Fin 2 → Nat :=
  let c0_i32_56 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c768_i32_55 : BitVec 32 := 768#32
  let v86 : BitVec 32 := Scalar.muli v4 c768_i32_55
  let v87 : BitVec 32 := Scalar.addi c0_i32_56 v86
  let c1_i32_57 : BitVec 32 := 1#32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let v88 : BitVec 32 := Scalar.subi c1_i32_57 v8
  let c384_i32_58 : BitVec 32 := 384#32
  let v89 : BitVec 32 := Scalar.muli v88 c384_i32_58
  let v90 : BitVec 32 := Scalar.addi v87 v89
  let v430 : Index := Scalar.indexCast v90
  let c768_296 : Index := 768#32
  ![v430.toNat, 768]
def k0_off39 (d0 : Dev nD) : Fin 2 → Nat :=
  let c0_i32_294 : BitVec 32 := 0#32
  let c0_i32_56 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c768_i32_55 : BitVec 32 := 768#32
  let v86 : BitVec 32 := Scalar.muli v4 c768_i32_55
  let v87 : BitVec 32 := Scalar.addi c0_i32_56 v86
  let c1_i32_57 : BitVec 32 := 1#32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let v88 : BitVec 32 := Scalar.subi c1_i32_57 v8
  let c384_i32_58 : BitVec 32 := 384#32
  let v89 : BitVec 32 := Scalar.muli v88 c384_i32_58
  let v90 : BitVec 32 := Scalar.addi v87 v89
  let c0_i32_54 : BitVec 32 := 0#32
  let c768_i32_53 : BitVec 32 := 768#32
  let v84 : BitVec 32 := Scalar.muli v4 c768_i32_53
  let v85 : BitVec 32 := Scalar.addi c0_i32_54 v84
  let v426 : BitVec 32 := Scalar.subi v90 v85
  let v427 : BitVec 32 := Scalar.addi c0_i32_294 v426
  let v433 : Index := Scalar.indexCast v427
  let c768_297 : Index := 768#32
  ![v433.toNat, 768]
def k0_off40 (d0 : Dev nD) : Fin 2 → Nat :=
  let c0_i32_56 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c768_i32_55 : BitVec 32 := 768#32
  let v86 : BitVec 32 := Scalar.muli v4 c768_i32_55
  let v87 : BitVec 32 := Scalar.addi c0_i32_56 v86
  let c1_i32_57 : BitVec 32 := 1#32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let v88 : BitVec 32 := Scalar.subi c1_i32_57 v8
  let c384_i32_58 : BitVec 32 := 384#32
  let v89 : BitVec 32 := Scalar.muli v88 c384_i32_58
  let v90 : BitVec 32 := Scalar.addi v87 v89
  let c768_i32_304 : BitVec 32 := 768#32
  ![v90.toNat, 768]
def k0_dev13 (d0 : Dev nD) : Nat :=
  let c0_i32_301 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_4 : BitVec 32 := 4#32
  let v10 : BitVec 32 := Scalar.andi v2 c4_i32_4
  let c3_i32 : BitVec 32 := 3#32
  let v11 : BitVec 32 := Scalar.andi v2 c3_i32
  let c1_i32_5 : BitVec 32 := 1#32
  let v12 : BitVec 32 := Scalar.xori v11 c1_i32_5
  let v13 : BitVec 32 := Scalar.ori v10 v12
  let c1_i32_300 : BitVec 32 := 1#32
  let v438 : BitVec 32 := Scalar.muli v13 c1_i32_300
  let v439 : BitVec 32 := Scalar.addi c0_i32_301 v438
  v439.toNat
def k0_off41 (d0 : Dev nD) : Fin 2 → Nat :=
  let c0_i32_56 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c768_i32_55 : BitVec 32 := 768#32
  let v86 : BitVec 32 := Scalar.muli v4 c768_i32_55
  let v87 : BitVec 32 := Scalar.addi c0_i32_56 v86
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c384_i32_59 : BitVec 32 := 384#32
  let v91 : BitVec 32 := Scalar.muli v8 c384_i32_59
  let v92 : BitVec 32 := Scalar.addi v87 v91
  let v446 : Index := Scalar.indexCast v92
  let c768_305 : Index := 768#32
  ![v446.toNat, 768]
def k0_off42 (d0 : Dev nD) : Fin 2 → Nat :=
  let c0_i32_295 : BitVec 32 := 0#32
  let c0_i32_56 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c768_i32_55 : BitVec 32 := 768#32
  let v86 : BitVec 32 := Scalar.muli v4 c768_i32_55
  let v87 : BitVec 32 := Scalar.addi c0_i32_56 v86
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c384_i32_59 : BitVec 32 := 384#32
  let v91 : BitVec 32 := Scalar.muli v8 c384_i32_59
  let v92 : BitVec 32 := Scalar.addi v87 v91
  let c0_i32_54 : BitVec 32 := 0#32
  let c768_i32_53 : BitVec 32 := 768#32
  let v84 : BitVec 32 := Scalar.muli v4 c768_i32_53
  let v85 : BitVec 32 := Scalar.addi c0_i32_54 v84
  let v428 : BitVec 32 := Scalar.subi v92 v85
  let v429 : BitVec 32 := Scalar.addi c0_i32_295 v428
  let v449 : Index := Scalar.indexCast v429
  let c768_306 : Index := 768#32
  ![v449.toNat, 768]
def k0_off43 (d0 : Dev nD) : Fin 2 → Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c768_i32_70 : BitVec 32 := 768#32
  let v107 : BitVec 32 := Scalar.muli v8 c768_i32_70
  let v108 : BitVec 32 := Scalar.addi c0_i32_71 v107
  let c1_i32_72 : BitVec 32 := 1#32
  let v109 : BitVec 32 := Scalar.subi c1_i32_72 v6
  let c384_i32_73 : BitVec 32 := 384#32
  let v110 : BitVec 32 := Scalar.muli v109 c384_i32_73
  let v111 : BitVec 32 := Scalar.addi v108 v110
  let v464 : Index := Scalar.indexCast v111
  let c1024_317 : Index := 1024#32
  ![v464.toNat, 1024]
def k0_off44 (d0 : Dev nD) : Fin 2 → Nat :=
  let c0_i32_315 : BitVec 32 := 0#32
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c768_i32_70 : BitVec 32 := 768#32
  let v107 : BitVec 32 := Scalar.muli v8 c768_i32_70
  let v108 : BitVec 32 := Scalar.addi c0_i32_71 v107
  let c1_i32_72 : BitVec 32 := 1#32
  let v109 : BitVec 32 := Scalar.subi c1_i32_72 v6
  let c384_i32_73 : BitVec 32 := 384#32
  let v110 : BitVec 32 := Scalar.muli v109 c384_i32_73
  let v111 : BitVec 32 := Scalar.addi v108 v110
  let c0_i32_69 : BitVec 32 := 0#32
  let c768_i32_68 : BitVec 32 := 768#32
  let v105 : BitVec 32 := Scalar.muli v8 c768_i32_68
  let v106 : BitVec 32 := Scalar.addi c0_i32_69 v105
  let v460 : BitVec 32 := Scalar.subi v111 v106
  let v461 : BitVec 32 := Scalar.addi c0_i32_315 v460
  let v467 : Index := Scalar.indexCast v461
  let c1024_318 : Index := 1024#32
  ![v467.toNat, 1024]
def k0_off45 (d0 : Dev nD) : Fin 2 → Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c768_i32_70 : BitVec 32 := 768#32
  let v107 : BitVec 32 := Scalar.muli v8 c768_i32_70
  let v108 : BitVec 32 := Scalar.addi c0_i32_71 v107
  let c1_i32_72 : BitVec 32 := 1#32
  let v109 : BitVec 32 := Scalar.subi c1_i32_72 v6
  let c384_i32_73 : BitVec 32 := 384#32
  let v110 : BitVec 32 := Scalar.muli v109 c384_i32_73
  let v111 : BitVec 32 := Scalar.addi v108 v110
  let c1024_i32_325 : BitVec 32 := 1024#32
  ![v111.toNat, 1024]
def k0_dev14 (d0 : Dev nD) : Nat :=
  let c0_i32_322 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_6 : BitVec 32 := 4#32
  let v14 : BitVec 32 := Scalar.andi v2 c4_i32_6
  let c3_i32_8 : BitVec 32 := 3#32
  let c3_i32_7 : BitVec 32 := 3#32
  let v15 : BitVec 32 := Scalar.andi v2 c3_i32_7
  let v16 : BitVec 32 := Scalar.subi c3_i32_8 v15
  let v17 : BitVec 32 := Scalar.ori v14 v16
  let c1_i32_321 : BitVec 32 := 1#32
  let v472 : BitVec 32 := Scalar.muli v17 c1_i32_321
  let v473 : BitVec 32 := Scalar.addi c0_i32_322 v472
  v473.toNat
def k0_off46 (d0 : Dev nD) : Fin 2 → Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c768_i32_70 : BitVec 32 := 768#32
  let v107 : BitVec 32 := Scalar.muli v8 c768_i32_70
  let v108 : BitVec 32 := Scalar.addi c0_i32_71 v107
  let c384_i32_74 : BitVec 32 := 384#32
  let v112 : BitVec 32 := Scalar.muli v6 c384_i32_74
  let v113 : BitVec 32 := Scalar.addi v108 v112
  let v480 : Index := Scalar.indexCast v113
  let c1024_326 : Index := 1024#32
  ![v480.toNat, 1024]
def k0_off47 (d0 : Dev nD) : Fin 2 → Nat :=
  let c0_i32_316 : BitVec 32 := 0#32
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c768_i32_70 : BitVec 32 := 768#32
  let v107 : BitVec 32 := Scalar.muli v8 c768_i32_70
  let v108 : BitVec 32 := Scalar.addi c0_i32_71 v107
  let c384_i32_74 : BitVec 32 := 384#32
  let v112 : BitVec 32 := Scalar.muli v6 c384_i32_74
  let v113 : BitVec 32 := Scalar.addi v108 v112
  let c0_i32_69 : BitVec 32 := 0#32
  let c768_i32_68 : BitVec 32 := 768#32
  let v105 : BitVec 32 := Scalar.muli v8 c768_i32_68
  let v106 : BitVec 32 := Scalar.addi c0_i32_69 v105
  let v462 : BitVec 32 := Scalar.subi v113 v106
  let v463 : BitVec 32 := Scalar.addi c0_i32_316 v462
  let v483 : Index := Scalar.indexCast v463
  let c1024_327 : Index := 1024#32
  ![v483.toNat, 1024]
def k0_off48 (d0 : Dev nD) : Fin 2 → Nat :=
  let c0_i32_86 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c768_i32_85 : BitVec 32 := 768#32
  let v128 : BitVec 32 := Scalar.muli v6 c768_i32_85
  let v129 : BitVec 32 := Scalar.addi c0_i32_86 v128
  let c1_i32_87 : BitVec 32 := 1#32
  let c2_i32 : BitVec 32 := 2#32
  let v3 : BitVec 32 := Scalar.shrsi v2 c2_i32
  let c1_i32_0 : BitVec 32 := 1#32
  let v4 : BitVec 32 := Scalar.andi v3 c1_i32_0
  let v130 : BitVec 32 := Scalar.subi c1_i32_87 v4
  let c384_i32_88 : BitVec 32 := 384#32
  let v131 : BitVec 32 := Scalar.muli v130 c384_i32_88
  let v132 : BitVec 32 := Scalar.addi v129 v131
  let v498 : Index := Scalar.indexCast v132
  let c1280_338 : Index := 1280#32
  ![v498.toNat, 1280]
def k0_off49 (d0 : Dev nD) : Fin 2 → Nat :=
  let c0_i32_336 : BitVec 32 := 0#32
  let c0_i32_86 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c768_i32_85 : BitVec 32 := 768#32
  let v128 : BitVec 32 := Scalar.muli v6 c768_i32_85
  let v129 : BitVec 32 := Scalar.addi c0_i32_86 v128
  let c1_i32_87 : BitVec 32 := 1#32
  let c2_i32 : BitVec 32 := 2#32
  let v3 : BitVec 32 := Scalar.shrsi v2 c2_i32
  let c1_i32_0 : BitVec 32 := 1#32
  let v4 : BitVec 32 := Scalar.andi v3 c1_i32_0
  let v130 : BitVec 32 := Scalar.subi c1_i32_87 v4
  let c384_i32_88 : BitVec 32 := 384#32
  let v131 : BitVec 32 := Scalar.muli v130 c384_i32_88
  let v132 : BitVec 32 := Scalar.addi v129 v131
  let c0_i32_84 : BitVec 32 := 0#32
  let c768_i32_83 : BitVec 32 := 768#32
  let v126 : BitVec 32 := Scalar.muli v6 c768_i32_83
  let v127 : BitVec 32 := Scalar.addi c0_i32_84 v126
  let v494 : BitVec 32 := Scalar.subi v132 v127
  let v495 : BitVec 32 := Scalar.addi c0_i32_336 v494
  let v501 : Index := Scalar.indexCast v495
  let c1280_339 : Index := 1280#32
  ![v501.toNat, 1280]
def k0_off50 (d0 : Dev nD) : Fin 2 → Nat :=
  let c0_i32_86 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c768_i32_85 : BitVec 32 := 768#32
  let v128 : BitVec 32 := Scalar.muli v6 c768_i32_85
  let v129 : BitVec 32 := Scalar.addi c0_i32_86 v128
  let c1_i32_87 : BitVec 32 := 1#32
  let c2_i32 : BitVec 32 := 2#32
  let v3 : BitVec 32 := Scalar.shrsi v2 c2_i32
  let c1_i32_0 : BitVec 32 := 1#32
  let v4 : BitVec 32 := Scalar.andi v3 c1_i32_0
  let v130 : BitVec 32 := Scalar.subi c1_i32_87 v4
  let c384_i32_88 : BitVec 32 := 384#32
  let v131 : BitVec 32 := Scalar.muli v130 c384_i32_88
  let v132 : BitVec 32 := Scalar.addi v129 v131
  let c1280_i32_346 : BitVec 32 := 1280#32
  ![v132.toNat, 1280]
def k0_dev15 (d0 : Dev nD) : Nat :=
  let c0_i32_343 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v9 : BitVec 32 := Scalar.xori v2 c4_i32
  let c1_i32_342 : BitVec 32 := 1#32
  let v506 : BitVec 32 := Scalar.muli v9 c1_i32_342
  let v507 : BitVec 32 := Scalar.addi c0_i32_343 v506
  v507.toNat
def k0_off51 (d0 : Dev nD) : Fin 2 → Nat :=
  let c0_i32_86 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c768_i32_85 : BitVec 32 := 768#32
  let v128 : BitVec 32 := Scalar.muli v6 c768_i32_85
  let v129 : BitVec 32 := Scalar.addi c0_i32_86 v128
  let c2_i32 : BitVec 32 := 2#32
  let v3 : BitVec 32 := Scalar.shrsi v2 c2_i32
  let c1_i32_0 : BitVec 32 := 1#32
  let v4 : BitVec 32 := Scalar.andi v3 c1_i32_0
  let c384_i32_89 : BitVec 32 := 384#32
  let v133 : BitVec 32 := Scalar.muli v4 c384_i32_89
  let v134 : BitVec 32 := Scalar.addi v129 v133
  let v514 : Index := Scalar.indexCast v134
  let c1280_347 : Index := 1280#32
  ![v514.toNat, 1280]
def k0_off52 (d0 : Dev nD) : Fin 2 → Nat :=
  let c0_i32_337 : BitVec 32 := 0#32
  let c0_i32_86 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c768_i32_85 : BitVec 32 := 768#32
  let v128 : BitVec 32 := Scalar.muli v6 c768_i32_85
  let v129 : BitVec 32 := Scalar.addi c0_i32_86 v128
  let c2_i32 : BitVec 32 := 2#32
  let v3 : BitVec 32 := Scalar.shrsi v2 c2_i32
  let c1_i32_0 : BitVec 32 := 1#32
  let v4 : BitVec 32 := Scalar.andi v3 c1_i32_0
  let c384_i32_89 : BitVec 32 := 384#32
  let v133 : BitVec 32 := Scalar.muli v4 c384_i32_89
  let v134 : BitVec 32 := Scalar.addi v129 v133
  let c0_i32_84 : BitVec 32 := 0#32
  let c768_i32_83 : BitVec 32 := 768#32
  let v126 : BitVec 32 := Scalar.muli v6 c768_i32_83
  let v127 : BitVec 32 := Scalar.addi c0_i32_84 v126
  let v496 : BitVec 32 := Scalar.subi v134 v127
  let v497 : BitVec 32 := Scalar.addi c0_i32_337 v496
  let v517 : Index := Scalar.indexCast v497
  let c1280_348 : Index := 1280#32
  ![v517.toNat, 1280]
def k0_off53 (d0 : Dev nD) : Fin 2 → Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c768_i32_12 : BitVec 32 := 768#32
  let v23 : BitVec 32 := Scalar.muli v4 c768_i32_12
  let v24 : BitVec 32 := Scalar.addi c0_i32_13 v23
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c384_i32_16 : BitVec 32 := 384#32
  let v30 : BitVec 32 := Scalar.muli v8 c384_i32_16
  let v31 : BitVec 32 := Scalar.addi v24 v30
  let c1_i32_17 : BitVec 32 := 1#32
  let v32 : BitVec 32 := Scalar.subi c1_i32_17 v6
  let c192_i32 : BitVec 32 := 192#32
  let v33 : BitVec 32 := Scalar.muli v32 c192_i32
  let v34 : BitVec 32 := Scalar.addi v31 v33
  let v532 : Index := Scalar.indexCast v34
  let c0_359 : Index := 0#32
  ![v532.toNat, 0]
def k0_off54 (d0 : Dev nD) : Fin 2 → Nat :=
  let c768_i32_357 : BitVec 32 := 768#32
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c768_i32_12 : BitVec 32 := 768#32
  let v23 : BitVec 32 := Scalar.muli v4 c768_i32_12
  let v24 : BitVec 32 := Scalar.addi c0_i32_13 v23
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c384_i32_16 : BitVec 32 := 384#32
  let v30 : BitVec 32 := Scalar.muli v8 c384_i32_16
  let v31 : BitVec 32 := Scalar.addi v24 v30
  let c1_i32_17 : BitVec 32 := 1#32
  let v32 : BitVec 32 := Scalar.subi c1_i32_17 v6
  let c192_i32 : BitVec 32 := 192#32
  let v33 : BitVec 32 := Scalar.muli v32 c192_i32
  let v34 : BitVec 32 := Scalar.addi v31 v33
  let c384_i32_15 : BitVec 32 := 384#32
  let v28 : BitVec 32 := Scalar.muli v8 c384_i32_15
  let v29 : BitVec 32 := Scalar.addi v24 v28
  let v528 : BitVec 32 := Scalar.subi v34 v29
  let v529 : BitVec 32 := Scalar.addi c768_i32_357 v528
  let v535 : Index := Scalar.indexCast v529
  let c0_360 : Index := 0#32
  ![v535.toNat, 0]
def k0_off55 (d0 : Dev nD) : Fin 2 → Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c768_i32_12 : BitVec 32 := 768#32
  let v23 : BitVec 32 := Scalar.muli v4 c768_i32_12
  let v24 : BitVec 32 := Scalar.addi c0_i32_13 v23
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c384_i32_16 : BitVec 32 := 384#32
  let v30 : BitVec 32 := Scalar.muli v8 c384_i32_16
  let v31 : BitVec 32 := Scalar.addi v24 v30
  let c1_i32_17 : BitVec 32 := 1#32
  let v32 : BitVec 32 := Scalar.subi c1_i32_17 v6
  let c192_i32 : BitVec 32 := 192#32
  let v33 : BitVec 32 := Scalar.muli v32 c192_i32
  let v34 : BitVec 32 := Scalar.addi v31 v33
  let c0_i32_366 : BitVec 32 := 0#32
  ![v34.toNat, 0]
def k0_dev16 (d0 : Dev nD) : Nat :=
  let c0_i32_364 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_6 : BitVec 32 := 4#32
  let v14 : BitVec 32 := Scalar.andi v2 c4_i32_6
  let c3_i32_8 : BitVec 32 := 3#32
  let c3_i32_7 : BitVec 32 := 3#32
  let v15 : BitVec 32 := Scalar.andi v2 c3_i32_7
  let v16 : BitVec 32 := Scalar.subi c3_i32_8 v15
  let v17 : BitVec 32 := Scalar.ori v14 v16
  let c1_i32_363 : BitVec 32 := 1#32
  let v540 : BitVec 32 := Scalar.muli v17 c1_i32_363
  let v541 : BitVec 32 := Scalar.addi c0_i32_364 v540
  v541.toNat
def k0_off56 (d0 : Dev nD) : Fin 2 → Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c768_i32_12 : BitVec 32 := 768#32
  let v23 : BitVec 32 := Scalar.muli v4 c768_i32_12
  let v24 : BitVec 32 := Scalar.addi c0_i32_13 v23
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c384_i32_16 : BitVec 32 := 384#32
  let v30 : BitVec 32 := Scalar.muli v8 c384_i32_16
  let v31 : BitVec 32 := Scalar.addi v24 v30
  let c192_i32_18 : BitVec 32 := 192#32
  let v35 : BitVec 32 := Scalar.muli v6 c192_i32_18
  let v36 : BitVec 32 := Scalar.addi v31 v35
  let v548 : Index := Scalar.indexCast v36
  let c0_367 : Index := 0#32
  ![v548.toNat, 0]
def k0_off57 (d0 : Dev nD) : Fin 2 → Nat :=
  let c768_i32_358 : BitVec 32 := 768#32
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c768_i32_12 : BitVec 32 := 768#32
  let v23 : BitVec 32 := Scalar.muli v4 c768_i32_12
  let v24 : BitVec 32 := Scalar.addi c0_i32_13 v23
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c384_i32_16 : BitVec 32 := 384#32
  let v30 : BitVec 32 := Scalar.muli v8 c384_i32_16
  let v31 : BitVec 32 := Scalar.addi v24 v30
  let c192_i32_18 : BitVec 32 := 192#32
  let v35 : BitVec 32 := Scalar.muli v6 c192_i32_18
  let v36 : BitVec 32 := Scalar.addi v31 v35
  let c384_i32_15 : BitVec 32 := 384#32
  let v28 : BitVec 32 := Scalar.muli v8 c384_i32_15
  let v29 : BitVec 32 := Scalar.addi v24 v28
  let v530 : BitVec 32 := Scalar.subi v36 v29
  let v531 : BitVec 32 := Scalar.addi c768_i32_358 v530
  let v551 : Index := Scalar.indexCast v531
  let c0_368 : Index := 0#32
  ![v551.toNat, 0]
def k0_off58 (d0 : Dev nD) : Fin 2 → Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c768_i32_25 : BitVec 32 := 768#32
  let v44 : BitVec 32 := Scalar.muli v8 c768_i32_25
  let v45 : BitVec 32 := Scalar.addi c0_i32_26 v44
  let c384_i32_30 : BitVec 32 := 384#32
  let v51 : BitVec 32 := Scalar.muli v6 c384_i32_30
  let v52 : BitVec 32 := Scalar.addi v45 v51
  let c1_i32_31 : BitVec 32 := 1#32
  let c2_i32 : BitVec 32 := 2#32
  let v3 : BitVec 32 := Scalar.shrsi v2 c2_i32
  let c1_i32_0 : BitVec 32 := 1#32
  let v4 : BitVec 32 := Scalar.andi v3 c1_i32_0
  let v53 : BitVec 32 := Scalar.subi c1_i32_31 v4
  let c192_i32_32 : BitVec 32 := 192#32
  let v54 : BitVec 32 := Scalar.muli v53 c192_i32_32
  let v55 : BitVec 32 := Scalar.addi v52 v54
  let v566 : Index := Scalar.indexCast v55
  let c256_379 : Index := 256#32
  ![v566.toNat, 256]
def k0_off59 (d0 : Dev nD) : Fin 2 → Nat :=
  let c768_i32_377 : BitVec 32 := 768#32
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c768_i32_25 : BitVec 32 := 768#32
  let v44 : BitVec 32 := Scalar.muli v8 c768_i32_25
  let v45 : BitVec 32 := Scalar.addi c0_i32_26 v44
  let c384_i32_30 : BitVec 32 := 384#32
  let v51 : BitVec 32 := Scalar.muli v6 c384_i32_30
  let v52 : BitVec 32 := Scalar.addi v45 v51
  let c1_i32_31 : BitVec 32 := 1#32
  let c2_i32 : BitVec 32 := 2#32
  let v3 : BitVec 32 := Scalar.shrsi v2 c2_i32
  let c1_i32_0 : BitVec 32 := 1#32
  let v4 : BitVec 32 := Scalar.andi v3 c1_i32_0
  let v53 : BitVec 32 := Scalar.subi c1_i32_31 v4
  let c192_i32_32 : BitVec 32 := 192#32
  let v54 : BitVec 32 := Scalar.muli v53 c192_i32_32
  let v55 : BitVec 32 := Scalar.addi v52 v54
  let c384_i32_29 : BitVec 32 := 384#32
  let v49 : BitVec 32 := Scalar.muli v6 c384_i32_29
  let v50 : BitVec 32 := Scalar.addi v45 v49
  let v562 : BitVec 32 := Scalar.subi v55 v50
  let v563 : BitVec 32 := Scalar.addi c768_i32_377 v562
  let v569 : Index := Scalar.indexCast v563
  let c256_380 : Index := 256#32
  ![v569.toNat, 256]
def k0_off60 (d0 : Dev nD) : Fin 2 → Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c768_i32_25 : BitVec 32 := 768#32
  let v44 : BitVec 32 := Scalar.muli v8 c768_i32_25
  let v45 : BitVec 32 := Scalar.addi c0_i32_26 v44
  let c384_i32_30 : BitVec 32 := 384#32
  let v51 : BitVec 32 := Scalar.muli v6 c384_i32_30
  let v52 : BitVec 32 := Scalar.addi v45 v51
  let c1_i32_31 : BitVec 32 := 1#32
  let c2_i32 : BitVec 32 := 2#32
  let v3 : BitVec 32 := Scalar.shrsi v2 c2_i32
  let c1_i32_0 : BitVec 32 := 1#32
  let v4 : BitVec 32 := Scalar.andi v3 c1_i32_0
  let v53 : BitVec 32 := Scalar.subi c1_i32_31 v4
  let c192_i32_32 : BitVec 32 := 192#32
  let v54 : BitVec 32 := Scalar.muli v53 c192_i32_32
  let v55 : BitVec 32 := Scalar.addi v52 v54
  let c256_i32_387 : BitVec 32 := 256#32
  ![v55.toNat, 256]
def k0_dev17 (d0 : Dev nD) : Nat :=
  let c0_i32_384 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v9 : BitVec 32 := Scalar.xori v2 c4_i32
  let c1_i32_383 : BitVec 32 := 1#32
  let v574 : BitVec 32 := Scalar.muli v9 c1_i32_383
  let v575 : BitVec 32 := Scalar.addi c0_i32_384 v574
  v575.toNat
def k0_off61 (d0 : Dev nD) : Fin 2 → Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c768_i32_25 : BitVec 32 := 768#32
  let v44 : BitVec 32 := Scalar.muli v8 c768_i32_25
  let v45 : BitVec 32 := Scalar.addi c0_i32_26 v44
  let c384_i32_30 : BitVec 32 := 384#32
  let v51 : BitVec 32 := Scalar.muli v6 c384_i32_30
  let v52 : BitVec 32 := Scalar.addi v45 v51
  let c2_i32 : BitVec 32 := 2#32
  let v3 : BitVec 32 := Scalar.shrsi v2 c2_i32
  let c1_i32_0 : BitVec 32 := 1#32
  let v4 : BitVec 32 := Scalar.andi v3 c1_i32_0
  let c192_i32_33 : BitVec 32 := 192#32
  let v56 : BitVec 32 := Scalar.muli v4 c192_i32_33
  let v57 : BitVec 32 := Scalar.addi v52 v56
  let v582 : Index := Scalar.indexCast v57
  let c256_388 : Index := 256#32
  ![v582.toNat, 256]
def k0_off62 (d0 : Dev nD) : Fin 2 → Nat :=
  let c768_i32_378 : BitVec 32 := 768#32
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c768_i32_25 : BitVec 32 := 768#32
  let v44 : BitVec 32 := Scalar.muli v8 c768_i32_25
  let v45 : BitVec 32 := Scalar.addi c0_i32_26 v44
  let c384_i32_30 : BitVec 32 := 384#32
  let v51 : BitVec 32 := Scalar.muli v6 c384_i32_30
  let v52 : BitVec 32 := Scalar.addi v45 v51
  let c2_i32 : BitVec 32 := 2#32
  let v3 : BitVec 32 := Scalar.shrsi v2 c2_i32
  let c1_i32_0 : BitVec 32 := 1#32
  let v4 : BitVec 32 := Scalar.andi v3 c1_i32_0
  let c192_i32_33 : BitVec 32 := 192#32
  let v56 : BitVec 32 := Scalar.muli v4 c192_i32_33
  let v57 : BitVec 32 := Scalar.addi v52 v56
  let c384_i32_29 : BitVec 32 := 384#32
  let v49 : BitVec 32 := Scalar.muli v6 c384_i32_29
  let v50 : BitVec 32 := Scalar.addi v45 v49
  let v564 : BitVec 32 := Scalar.subi v57 v50
  let v565 : BitVec 32 := Scalar.addi c768_i32_378 v564
  let v585 : Index := Scalar.indexCast v565
  let c256_389 : Index := 256#32
  ![v585.toNat, 256]
def k0_off63 (d0 : Dev nD) : Fin 2 → Nat :=
  let c0_i32_41 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c768_i32_40 : BitVec 32 := 768#32
  let v65 : BitVec 32 := Scalar.muli v6 c768_i32_40
  let v66 : BitVec 32 := Scalar.addi c0_i32_41 v65
  let c2_i32 : BitVec 32 := 2#32
  let v3 : BitVec 32 := Scalar.shrsi v2 c2_i32
  let c1_i32_0 : BitVec 32 := 1#32
  let v4 : BitVec 32 := Scalar.andi v3 c1_i32_0
  let c384_i32_45 : BitVec 32 := 384#32
  let v72 : BitVec 32 := Scalar.muli v4 c384_i32_45
  let v73 : BitVec 32 := Scalar.addi v66 v72
  let c1_i32_46 : BitVec 32 := 1#32
  let c1_i32_3 : BitVec 32 := 1#32
  let v7 : BitVec 32 := Scalar.andi v2 c1_i32_3
  let v8 : BitVec 32 := Scalar.xori v7 v6
  let v74 : BitVec 32 := Scalar.subi c1_i32_46 v8
  let c192_i32_47 : BitVec 32 := 192#32
  let v75 : BitVec 32 := Scalar.muli v74 c192_i32_47
  let v76 : BitVec 32 := Scalar.addi v73 v75
  let v600 : Index := Scalar.indexCast v76
  let c512_400 : Index := 512#32
  ![v600.toNat, 512]
def k0_off64 (d0 : Dev nD) : Fin 2 → Nat :=
  let c768_i32_398 : BitVec 32 := 768#32
  let c0_i32_41 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c768_i32_40 : BitVec 32 := 768#32
  let v65 : BitVec 32 := Scalar.muli v6 c768_i32_40
  let v66 : BitVec 32 := Scalar.addi c0_i32_41 v65
  let c2_i32 : BitVec 32 := 2#32
  let v3 : BitVec 32 := Scalar.shrsi v2 c2_i32
  let c1_i32_0 : BitVec 32 := 1#32
  let v4 : BitVec 32 := Scalar.andi v3 c1_i32_0
  let c384_i32_45 : BitVec 32 := 384#32
  let v72 : BitVec 32 := Scalar.muli v4 c384_i32_45
  let v73 : BitVec 32 := Scalar.addi v66 v72
  let c1_i32_46 : BitVec 32 := 1#32
  let c1_i32_3 : BitVec 32 := 1#32
  let v7 : BitVec 32 := Scalar.andi v2 c1_i32_3
  let v8 : BitVec 32 := Scalar.xori v7 v6
  let v74 : BitVec 32 := Scalar.subi c1_i32_46 v8
  let c192_i32_47 : BitVec 32 := 192#32
  let v75 : BitVec 32 := Scalar.muli v74 c192_i32_47
  let v76 : BitVec 32 := Scalar.addi v73 v75
  let c384_i32_44 : BitVec 32 := 384#32
  let v70 : BitVec 32 := Scalar.muli v4 c384_i32_44
  let v71 : BitVec 32 := Scalar.addi v66 v70
  let v596 : BitVec 32 := Scalar.subi v76 v71
  let v597 : BitVec 32 := Scalar.addi c768_i32_398 v596
  let v603 : Index := Scalar.indexCast v597
  let c512_401 : Index := 512#32
  ![v603.toNat, 512]
def k0_off65 (d0 : Dev nD) : Fin 2 → Nat :=
  let c0_i32_41 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c768_i32_40 : BitVec 32 := 768#32
  let v65 : BitVec 32 := Scalar.muli v6 c768_i32_40
  let v66 : BitVec 32 := Scalar.addi c0_i32_41 v65
  let c2_i32 : BitVec 32 := 2#32
  let v3 : BitVec 32 := Scalar.shrsi v2 c2_i32
  let c1_i32_0 : BitVec 32 := 1#32
  let v4 : BitVec 32 := Scalar.andi v3 c1_i32_0
  let c384_i32_45 : BitVec 32 := 384#32
  let v72 : BitVec 32 := Scalar.muli v4 c384_i32_45
  let v73 : BitVec 32 := Scalar.addi v66 v72
  let c1_i32_46 : BitVec 32 := 1#32
  let c1_i32_3 : BitVec 32 := 1#32
  let v7 : BitVec 32 := Scalar.andi v2 c1_i32_3
  let v8 : BitVec 32 := Scalar.xori v7 v6
  let v74 : BitVec 32 := Scalar.subi c1_i32_46 v8
  let c192_i32_47 : BitVec 32 := 192#32
  let v75 : BitVec 32 := Scalar.muli v74 c192_i32_47
  let v76 : BitVec 32 := Scalar.addi v73 v75
  let c512_i32_408 : BitVec 32 := 512#32
  ![v76.toNat, 512]
def k0_dev18 (d0 : Dev nD) : Nat :=
  let c0_i32_405 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_4 : BitVec 32 := 4#32
  let v10 : BitVec 32 := Scalar.andi v2 c4_i32_4
  let c3_i32 : BitVec 32 := 3#32
  let v11 : BitVec 32 := Scalar.andi v2 c3_i32
  let c1_i32_5 : BitVec 32 := 1#32
  let v12 : BitVec 32 := Scalar.xori v11 c1_i32_5
  let v13 : BitVec 32 := Scalar.ori v10 v12
  let c1_i32_404 : BitVec 32 := 1#32
  let v608 : BitVec 32 := Scalar.muli v13 c1_i32_404
  let v609 : BitVec 32 := Scalar.addi c0_i32_405 v608
  v609.toNat
def k0_off66 (d0 : Dev nD) : Fin 2 → Nat :=
  let c0_i32_41 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c768_i32_40 : BitVec 32 := 768#32
  let v65 : BitVec 32 := Scalar.muli v6 c768_i32_40
  let v66 : BitVec 32 := Scalar.addi c0_i32_41 v65
  let c2_i32 : BitVec 32 := 2#32
  let v3 : BitVec 32 := Scalar.shrsi v2 c2_i32
  let c1_i32_0 : BitVec 32 := 1#32
  let v4 : BitVec 32 := Scalar.andi v3 c1_i32_0
  let c384_i32_45 : BitVec 32 := 384#32
  let v72 : BitVec 32 := Scalar.muli v4 c384_i32_45
  let v73 : BitVec 32 := Scalar.addi v66 v72
  let c1_i32_3 : BitVec 32 := 1#32
  let v7 : BitVec 32 := Scalar.andi v2 c1_i32_3
  let v8 : BitVec 32 := Scalar.xori v7 v6
  let c192_i32_48 : BitVec 32 := 192#32
  let v77 : BitVec 32 := Scalar.muli v8 c192_i32_48
  let v78 : BitVec 32 := Scalar.addi v73 v77
  let v616 : Index := Scalar.indexCast v78
  let c512_409 : Index := 512#32
  ![v616.toNat, 512]
def k0_off67 (d0 : Dev nD) : Fin 2 → Nat :=
  let c768_i32_399 : BitVec 32 := 768#32
  let c0_i32_41 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c768_i32_40 : BitVec 32 := 768#32
  let v65 : BitVec 32 := Scalar.muli v6 c768_i32_40
  let v66 : BitVec 32 := Scalar.addi c0_i32_41 v65
  let c2_i32 : BitVec 32 := 2#32
  let v3 : BitVec 32 := Scalar.shrsi v2 c2_i32
  let c1_i32_0 : BitVec 32 := 1#32
  let v4 : BitVec 32 := Scalar.andi v3 c1_i32_0
  let c384_i32_45 : BitVec 32 := 384#32
  let v72 : BitVec 32 := Scalar.muli v4 c384_i32_45
  let v73 : BitVec 32 := Scalar.addi v66 v72
  let c1_i32_3 : BitVec 32 := 1#32
  let v7 : BitVec 32 := Scalar.andi v2 c1_i32_3
  let v8 : BitVec 32 := Scalar.xori v7 v6
  let c192_i32_48 : BitVec 32 := 192#32
  let v77 : BitVec 32 := Scalar.muli v8 c192_i32_48
  let v78 : BitVec 32 := Scalar.addi v73 v77
  let c384_i32_44 : BitVec 32 := 384#32
  let v70 : BitVec 32 := Scalar.muli v4 c384_i32_44
  let v71 : BitVec 32 := Scalar.addi v66 v70
  let v598 : BitVec 32 := Scalar.subi v78 v71
  let v599 : BitVec 32 := Scalar.addi c768_i32_399 v598
  let v619 : Index := Scalar.indexCast v599
  let c512_410 : Index := 512#32
  ![v619.toNat, 512]
def k0_off68 (d0 : Dev nD) : Fin 2 → Nat :=
  let c0_i32_56 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c768_i32_55 : BitVec 32 := 768#32
  let v86 : BitVec 32 := Scalar.muli v4 c768_i32_55
  let v87 : BitVec 32 := Scalar.addi c0_i32_56 v86
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c384_i32_60 : BitVec 32 := 384#32
  let v93 : BitVec 32 := Scalar.muli v8 c384_i32_60
  let v94 : BitVec 32 := Scalar.addi v87 v93
  let c1_i32_61 : BitVec 32 := 1#32
  let v95 : BitVec 32 := Scalar.subi c1_i32_61 v6
  let c192_i32_62 : BitVec 32 := 192#32
  let v96 : BitVec 32 := Scalar.muli v95 c192_i32_62
  let v97 : BitVec 32 := Scalar.addi v94 v96
  let v634 : Index := Scalar.indexCast v97
  let c768_421 : Index := 768#32
  ![v634.toNat, 768]
def k0_off69 (d0 : Dev nD) : Fin 2 → Nat :=
  let c768_i32_419 : BitVec 32 := 768#32
  let c0_i32_56 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c768_i32_55 : BitVec 32 := 768#32
  let v86 : BitVec 32 := Scalar.muli v4 c768_i32_55
  let v87 : BitVec 32 := Scalar.addi c0_i32_56 v86
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c384_i32_60 : BitVec 32 := 384#32
  let v93 : BitVec 32 := Scalar.muli v8 c384_i32_60
  let v94 : BitVec 32 := Scalar.addi v87 v93
  let c1_i32_61 : BitVec 32 := 1#32
  let v95 : BitVec 32 := Scalar.subi c1_i32_61 v6
  let c192_i32_62 : BitVec 32 := 192#32
  let v96 : BitVec 32 := Scalar.muli v95 c192_i32_62
  let v97 : BitVec 32 := Scalar.addi v94 v96
  let c384_i32_59 : BitVec 32 := 384#32
  let v91 : BitVec 32 := Scalar.muli v8 c384_i32_59
  let v92 : BitVec 32 := Scalar.addi v87 v91
  let v630 : BitVec 32 := Scalar.subi v97 v92
  let v631 : BitVec 32 := Scalar.addi c768_i32_419 v630
  let v637 : Index := Scalar.indexCast v631
  let c768_422 : Index := 768#32
  ![v637.toNat, 768]
def k0_off70 (d0 : Dev nD) : Fin 2 → Nat :=
  let c0_i32_56 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c768_i32_55 : BitVec 32 := 768#32
  let v86 : BitVec 32 := Scalar.muli v4 c768_i32_55
  let v87 : BitVec 32 := Scalar.addi c0_i32_56 v86
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c384_i32_60 : BitVec 32 := 384#32
  let v93 : BitVec 32 := Scalar.muli v8 c384_i32_60
  let v94 : BitVec 32 := Scalar.addi v87 v93
  let c1_i32_61 : BitVec 32 := 1#32
  let v95 : BitVec 32 := Scalar.subi c1_i32_61 v6
  let c192_i32_62 : BitVec 32 := 192#32
  let v96 : BitVec 32 := Scalar.muli v95 c192_i32_62
  let v97 : BitVec 32 := Scalar.addi v94 v96
  let c768_i32_429 : BitVec 32 := 768#32
  ![v97.toNat, 768]
def k0_dev19 (d0 : Dev nD) : Nat :=
  let c0_i32_426 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_6 : BitVec 32 := 4#32
  let v14 : BitVec 32 := Scalar.andi v2 c4_i32_6
  let c3_i32_8 : BitVec 32 := 3#32
  let c3_i32_7 : BitVec 32 := 3#32
  let v15 : BitVec 32 := Scalar.andi v2 c3_i32_7
  let v16 : BitVec 32 := Scalar.subi c3_i32_8 v15
  let v17 : BitVec 32 := Scalar.ori v14 v16
  let c1_i32_425 : BitVec 32 := 1#32
  let v642 : BitVec 32 := Scalar.muli v17 c1_i32_425
  let v643 : BitVec 32 := Scalar.addi c0_i32_426 v642
  v643.toNat
def k0_off71 (d0 : Dev nD) : Fin 2 → Nat :=
  let c0_i32_56 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c768_i32_55 : BitVec 32 := 768#32
  let v86 : BitVec 32 := Scalar.muli v4 c768_i32_55
  let v87 : BitVec 32 := Scalar.addi c0_i32_56 v86
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c384_i32_60 : BitVec 32 := 384#32
  let v93 : BitVec 32 := Scalar.muli v8 c384_i32_60
  let v94 : BitVec 32 := Scalar.addi v87 v93
  let c192_i32_63 : BitVec 32 := 192#32
  let v98 : BitVec 32 := Scalar.muli v6 c192_i32_63
  let v99 : BitVec 32 := Scalar.addi v94 v98
  let v650 : Index := Scalar.indexCast v99
  let c768_430 : Index := 768#32
  ![v650.toNat, 768]
def k0_off72 (d0 : Dev nD) : Fin 2 → Nat :=
  let c768_i32_420 : BitVec 32 := 768#32
  let c0_i32_56 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c768_i32_55 : BitVec 32 := 768#32
  let v86 : BitVec 32 := Scalar.muli v4 c768_i32_55
  let v87 : BitVec 32 := Scalar.addi c0_i32_56 v86
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c384_i32_60 : BitVec 32 := 384#32
  let v93 : BitVec 32 := Scalar.muli v8 c384_i32_60
  let v94 : BitVec 32 := Scalar.addi v87 v93
  let c192_i32_63 : BitVec 32 := 192#32
  let v98 : BitVec 32 := Scalar.muli v6 c192_i32_63
  let v99 : BitVec 32 := Scalar.addi v94 v98
  let c384_i32_59 : BitVec 32 := 384#32
  let v91 : BitVec 32 := Scalar.muli v8 c384_i32_59
  let v92 : BitVec 32 := Scalar.addi v87 v91
  let v632 : BitVec 32 := Scalar.subi v99 v92
  let v633 : BitVec 32 := Scalar.addi c768_i32_420 v632
  let v653 : Index := Scalar.indexCast v633
  let c768_431 : Index := 768#32
  ![v653.toNat, 768]
def k0_off73 (d0 : Dev nD) : Fin 2 → Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c768_i32_70 : BitVec 32 := 768#32
  let v107 : BitVec 32 := Scalar.muli v8 c768_i32_70
  let v108 : BitVec 32 := Scalar.addi c0_i32_71 v107
  let c384_i32_75 : BitVec 32 := 384#32
  let v114 : BitVec 32 := Scalar.muli v6 c384_i32_75
  let v115 : BitVec 32 := Scalar.addi v108 v114
  let c1_i32_76 : BitVec 32 := 1#32
  let c2_i32 : BitVec 32 := 2#32
  let v3 : BitVec 32 := Scalar.shrsi v2 c2_i32
  let c1_i32_0 : BitVec 32 := 1#32
  let v4 : BitVec 32 := Scalar.andi v3 c1_i32_0
  let v116 : BitVec 32 := Scalar.subi c1_i32_76 v4
  let c192_i32_77 : BitVec 32 := 192#32
  let v117 : BitVec 32 := Scalar.muli v116 c192_i32_77
  let v118 : BitVec 32 := Scalar.addi v115 v117
  let v668 : Index := Scalar.indexCast v118
  let c1024_442 : Index := 1024#32
  ![v668.toNat, 1024]
def k0_off74 (d0 : Dev nD) : Fin 2 → Nat :=
  let c768_i32_440 : BitVec 32 := 768#32
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c768_i32_70 : BitVec 32 := 768#32
  let v107 : BitVec 32 := Scalar.muli v8 c768_i32_70
  let v108 : BitVec 32 := Scalar.addi c0_i32_71 v107
  let c384_i32_75 : BitVec 32 := 384#32
  let v114 : BitVec 32 := Scalar.muli v6 c384_i32_75
  let v115 : BitVec 32 := Scalar.addi v108 v114
  let c1_i32_76 : BitVec 32 := 1#32
  let c2_i32 : BitVec 32 := 2#32
  let v3 : BitVec 32 := Scalar.shrsi v2 c2_i32
  let c1_i32_0 : BitVec 32 := 1#32
  let v4 : BitVec 32 := Scalar.andi v3 c1_i32_0
  let v116 : BitVec 32 := Scalar.subi c1_i32_76 v4
  let c192_i32_77 : BitVec 32 := 192#32
  let v117 : BitVec 32 := Scalar.muli v116 c192_i32_77
  let v118 : BitVec 32 := Scalar.addi v115 v117
  let c384_i32_74 : BitVec 32 := 384#32
  let v112 : BitVec 32 := Scalar.muli v6 c384_i32_74
  let v113 : BitVec 32 := Scalar.addi v108 v112
  let v664 : BitVec 32 := Scalar.subi v118 v113
  let v665 : BitVec 32 := Scalar.addi c768_i32_440 v664
  let v671 : Index := Scalar.indexCast v665
  let c1024_443 : Index := 1024#32
  ![v671.toNat, 1024]
def k0_off75 (d0 : Dev nD) : Fin 2 → Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c768_i32_70 : BitVec 32 := 768#32
  let v107 : BitVec 32 := Scalar.muli v8 c768_i32_70
  let v108 : BitVec 32 := Scalar.addi c0_i32_71 v107
  let c384_i32_75 : BitVec 32 := 384#32
  let v114 : BitVec 32 := Scalar.muli v6 c384_i32_75
  let v115 : BitVec 32 := Scalar.addi v108 v114
  let c1_i32_76 : BitVec 32 := 1#32
  let c2_i32 : BitVec 32 := 2#32
  let v3 : BitVec 32 := Scalar.shrsi v2 c2_i32
  let c1_i32_0 : BitVec 32 := 1#32
  let v4 : BitVec 32 := Scalar.andi v3 c1_i32_0
  let v116 : BitVec 32 := Scalar.subi c1_i32_76 v4
  let c192_i32_77 : BitVec 32 := 192#32
  let v117 : BitVec 32 := Scalar.muli v116 c192_i32_77
  let v118 : BitVec 32 := Scalar.addi v115 v117
  let c1024_i32_450 : BitVec 32 := 1024#32
  ![v118.toNat, 1024]
def k0_dev20 (d0 : Dev nD) : Nat :=
  let c0_i32_447 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v9 : BitVec 32 := Scalar.xori v2 c4_i32
  let c1_i32_446 : BitVec 32 := 1#32
  let v676 : BitVec 32 := Scalar.muli v9 c1_i32_446
  let v677 : BitVec 32 := Scalar.addi c0_i32_447 v676
  v677.toNat
def k0_off76 (d0 : Dev nD) : Fin 2 → Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c768_i32_70 : BitVec 32 := 768#32
  let v107 : BitVec 32 := Scalar.muli v8 c768_i32_70
  let v108 : BitVec 32 := Scalar.addi c0_i32_71 v107
  let c384_i32_75 : BitVec 32 := 384#32
  let v114 : BitVec 32 := Scalar.muli v6 c384_i32_75
  let v115 : BitVec 32 := Scalar.addi v108 v114
  let c2_i32 : BitVec 32 := 2#32
  let v3 : BitVec 32 := Scalar.shrsi v2 c2_i32
  let c1_i32_0 : BitVec 32 := 1#32
  let v4 : BitVec 32 := Scalar.andi v3 c1_i32_0
  let c192_i32_78 : BitVec 32 := 192#32
  let v119 : BitVec 32 := Scalar.muli v4 c192_i32_78
  let v120 : BitVec 32 := Scalar.addi v115 v119
  let v684 : Index := Scalar.indexCast v120
  let c1024_451 : Index := 1024#32
  ![v684.toNat, 1024]
def k0_off77 (d0 : Dev nD) : Fin 2 → Nat :=
  let c768_i32_441 : BitVec 32 := 768#32
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c768_i32_70 : BitVec 32 := 768#32
  let v107 : BitVec 32 := Scalar.muli v8 c768_i32_70
  let v108 : BitVec 32 := Scalar.addi c0_i32_71 v107
  let c384_i32_75 : BitVec 32 := 384#32
  let v114 : BitVec 32 := Scalar.muli v6 c384_i32_75
  let v115 : BitVec 32 := Scalar.addi v108 v114
  let c2_i32 : BitVec 32 := 2#32
  let v3 : BitVec 32 := Scalar.shrsi v2 c2_i32
  let c1_i32_0 : BitVec 32 := 1#32
  let v4 : BitVec 32 := Scalar.andi v3 c1_i32_0
  let c192_i32_78 : BitVec 32 := 192#32
  let v119 : BitVec 32 := Scalar.muli v4 c192_i32_78
  let v120 : BitVec 32 := Scalar.addi v115 v119
  let c384_i32_74 : BitVec 32 := 384#32
  let v112 : BitVec 32 := Scalar.muli v6 c384_i32_74
  let v113 : BitVec 32 := Scalar.addi v108 v112
  let v666 : BitVec 32 := Scalar.subi v120 v113
  let v667 : BitVec 32 := Scalar.addi c768_i32_441 v666
  let v687 : Index := Scalar.indexCast v667
  let c1024_452 : Index := 1024#32
  ![v687.toNat, 1024]
def k0_off78 (d0 : Dev nD) : Fin 2 → Nat :=
  let c0_i32_86 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c768_i32_85 : BitVec 32 := 768#32
  let v128 : BitVec 32 := Scalar.muli v6 c768_i32_85
  let v129 : BitVec 32 := Scalar.addi c0_i32_86 v128
  let c2_i32 : BitVec 32 := 2#32
  let v3 : BitVec 32 := Scalar.shrsi v2 c2_i32
  let c1_i32_0 : BitVec 32 := 1#32
  let v4 : BitVec 32 := Scalar.andi v3 c1_i32_0
  let c384_i32_90 : BitVec 32 := 384#32
  let v135 : BitVec 32 := Scalar.muli v4 c384_i32_90
  let v136 : BitVec 32 := Scalar.addi v129 v135
  let c1_i32_91 : BitVec 32 := 1#32
  let c1_i32_3 : BitVec 32 := 1#32
  let v7 : BitVec 32 := Scalar.andi v2 c1_i32_3
  let v8 : BitVec 32 := Scalar.xori v7 v6
  let v137 : BitVec 32 := Scalar.subi c1_i32_91 v8
  let c192_i32_92 : BitVec 32 := 192#32
  let v138 : BitVec 32 := Scalar.muli v137 c192_i32_92
  let v139 : BitVec 32 := Scalar.addi v136 v138
  let v702 : Index := Scalar.indexCast v139
  let c1280_463 : Index := 1280#32
  ![v702.toNat, 1280]
def k0_off79 (d0 : Dev nD) : Fin 2 → Nat :=
  let c768_i32_461 : BitVec 32 := 768#32
  let c0_i32_86 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c768_i32_85 : BitVec 32 := 768#32
  let v128 : BitVec 32 := Scalar.muli v6 c768_i32_85
  let v129 : BitVec 32 := Scalar.addi c0_i32_86 v128
  let c2_i32 : BitVec 32 := 2#32
  let v3 : BitVec 32 := Scalar.shrsi v2 c2_i32
  let c1_i32_0 : BitVec 32 := 1#32
  let v4 : BitVec 32 := Scalar.andi v3 c1_i32_0
  let c384_i32_90 : BitVec 32 := 384#32
  let v135 : BitVec 32 := Scalar.muli v4 c384_i32_90
  let v136 : BitVec 32 := Scalar.addi v129 v135
  let c1_i32_91 : BitVec 32 := 1#32
  let c1_i32_3 : BitVec 32 := 1#32
  let v7 : BitVec 32 := Scalar.andi v2 c1_i32_3
  let v8 : BitVec 32 := Scalar.xori v7 v6
  let v137 : BitVec 32 := Scalar.subi c1_i32_91 v8
  let c192_i32_92 : BitVec 32 := 192#32
  let v138 : BitVec 32 := Scalar.muli v137 c192_i32_92
  let v139 : BitVec 32 := Scalar.addi v136 v138
  let c384_i32_89 : BitVec 32 := 384#32
  let v133 : BitVec 32 := Scalar.muli v4 c384_i32_89
  let v134 : BitVec 32 := Scalar.addi v129 v133
  let v698 : BitVec 32 := Scalar.subi v139 v134
  let v699 : BitVec 32 := Scalar.addi c768_i32_461 v698
  let v705 : Index := Scalar.indexCast v699
  let c1280_464 : Index := 1280#32
  ![v705.toNat, 1280]
def k0_off80 (d0 : Dev nD) : Fin 2 → Nat :=
  let c0_i32_86 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c768_i32_85 : BitVec 32 := 768#32
  let v128 : BitVec 32 := Scalar.muli v6 c768_i32_85
  let v129 : BitVec 32 := Scalar.addi c0_i32_86 v128
  let c2_i32 : BitVec 32 := 2#32
  let v3 : BitVec 32 := Scalar.shrsi v2 c2_i32
  let c1_i32_0 : BitVec 32 := 1#32
  let v4 : BitVec 32 := Scalar.andi v3 c1_i32_0
  let c384_i32_90 : BitVec 32 := 384#32
  let v135 : BitVec 32 := Scalar.muli v4 c384_i32_90
  let v136 : BitVec 32 := Scalar.addi v129 v135
  let c1_i32_91 : BitVec 32 := 1#32
  let c1_i32_3 : BitVec 32 := 1#32
  let v7 : BitVec 32 := Scalar.andi v2 c1_i32_3
  let v8 : BitVec 32 := Scalar.xori v7 v6
  let v137 : BitVec 32 := Scalar.subi c1_i32_91 v8
  let c192_i32_92 : BitVec 32 := 192#32
  let v138 : BitVec 32 := Scalar.muli v137 c192_i32_92
  let v139 : BitVec 32 := Scalar.addi v136 v138
  let c1280_i32_471 : BitVec 32 := 1280#32
  ![v139.toNat, 1280]
def k0_dev21 (d0 : Dev nD) : Nat :=
  let c0_i32_468 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_4 : BitVec 32 := 4#32
  let v10 : BitVec 32 := Scalar.andi v2 c4_i32_4
  let c3_i32 : BitVec 32 := 3#32
  let v11 : BitVec 32 := Scalar.andi v2 c3_i32
  let c1_i32_5 : BitVec 32 := 1#32
  let v12 : BitVec 32 := Scalar.xori v11 c1_i32_5
  let v13 : BitVec 32 := Scalar.ori v10 v12
  let c1_i32_467 : BitVec 32 := 1#32
  let v710 : BitVec 32 := Scalar.muli v13 c1_i32_467
  let v711 : BitVec 32 := Scalar.addi c0_i32_468 v710
  v711.toNat
def k0_off81 (d0 : Dev nD) : Fin 2 → Nat :=
  let c0_i32_86 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c768_i32_85 : BitVec 32 := 768#32
  let v128 : BitVec 32 := Scalar.muli v6 c768_i32_85
  let v129 : BitVec 32 := Scalar.addi c0_i32_86 v128
  let c2_i32 : BitVec 32 := 2#32
  let v3 : BitVec 32 := Scalar.shrsi v2 c2_i32
  let c1_i32_0 : BitVec 32 := 1#32
  let v4 : BitVec 32 := Scalar.andi v3 c1_i32_0
  let c384_i32_90 : BitVec 32 := 384#32
  let v135 : BitVec 32 := Scalar.muli v4 c384_i32_90
  let v136 : BitVec 32 := Scalar.addi v129 v135
  let c1_i32_3 : BitVec 32 := 1#32
  let v7 : BitVec 32 := Scalar.andi v2 c1_i32_3
  let v8 : BitVec 32 := Scalar.xori v7 v6
  let c192_i32_93 : BitVec 32 := 192#32
  let v140 : BitVec 32 := Scalar.muli v8 c192_i32_93
  let v141 : BitVec 32 := Scalar.addi v136 v140
  let v718 : Index := Scalar.indexCast v141
  let c1280_472 : Index := 1280#32
  ![v718.toNat, 1280]
def k0_off82 (d0 : Dev nD) : Fin 2 → Nat :=
  let c768_i32_462 : BitVec 32 := 768#32
  let c0_i32_86 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c768_i32_85 : BitVec 32 := 768#32
  let v128 : BitVec 32 := Scalar.muli v6 c768_i32_85
  let v129 : BitVec 32 := Scalar.addi c0_i32_86 v128
  let c2_i32 : BitVec 32 := 2#32
  let v3 : BitVec 32 := Scalar.shrsi v2 c2_i32
  let c1_i32_0 : BitVec 32 := 1#32
  let v4 : BitVec 32 := Scalar.andi v3 c1_i32_0
  let c384_i32_90 : BitVec 32 := 384#32
  let v135 : BitVec 32 := Scalar.muli v4 c384_i32_90
  let v136 : BitVec 32 := Scalar.addi v129 v135
  let c1_i32_3 : BitVec 32 := 1#32
  let v7 : BitVec 32 := Scalar.andi v2 c1_i32_3
  let v8 : BitVec 32 := Scalar.xori v7 v6
  let c192_i32_93 : BitVec 32 := 192#32
  let v140 : BitVec 32 := Scalar.muli v8 c192_i32_93
  let v141 : BitVec 32 := Scalar.addi v136 v140
  let c384_i32_89 : BitVec 32 := 384#32
  let v133 : BitVec 32 := Scalar.muli v4 c384_i32_89
  let v134 : BitVec 32 := Scalar.addi v129 v133
  let v700 : BitVec 32 := Scalar.subi v141 v134
  let v701 : BitVec 32 := Scalar.addi c768_i32_462 v700
  let v721 : Index := Scalar.indexCast v701
  let c1280_473 : Index := 1280#32
  ![v721.toNat, 1280]
def k0_off83 (d0 : Dev nD) : Fin 2 → Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c768_i32_12 : BitVec 32 := 768#32
  let v23 : BitVec 32 := Scalar.muli v4 c768_i32_12
  let v24 : BitVec 32 := Scalar.addi c0_i32_13 v23
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c384_i32_16 : BitVec 32 := 384#32
  let v30 : BitVec 32 := Scalar.muli v8 c384_i32_16
  let v31 : BitVec 32 := Scalar.addi v24 v30
  let c192_i32_19 : BitVec 32 := 192#32
  let v37 : BitVec 32 := Scalar.muli v6 c192_i32_19
  let v38 : BitVec 32 := Scalar.addi v31 v37
  let c0_i32_492 : BitVec 32 := 0#32
  ![v38.toNat, 0]
def k0_dev22 (d0 : Dev nD) : Nat :=
  let c0_i32_491 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_6 : BitVec 32 := 4#32
  let v14 : BitVec 32 := Scalar.andi v2 c4_i32_6
  let c3_i32_8 : BitVec 32 := 3#32
  let c3_i32_7 : BitVec 32 := 3#32
  let v15 : BitVec 32 := Scalar.andi v2 c3_i32_7
  let v16 : BitVec 32 := Scalar.subi c3_i32_8 v15
  let v17 : BitVec 32 := Scalar.ori v14 v16
  let c1_i32_490 : BitVec 32 := 1#32
  let v755 : BitVec 32 := Scalar.muli v17 c1_i32_490
  let v756 : BitVec 32 := Scalar.addi c0_i32_491 v755
  v756.toNat
def k0_off84 (d0 : Dev nD) : Fin 2 → Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c768_i32_25 : BitVec 32 := 768#32
  let v44 : BitVec 32 := Scalar.muli v8 c768_i32_25
  let v45 : BitVec 32 := Scalar.addi c0_i32_26 v44
  let c384_i32_30 : BitVec 32 := 384#32
  let v51 : BitVec 32 := Scalar.muli v6 c384_i32_30
  let v52 : BitVec 32 := Scalar.addi v45 v51
  let c2_i32 : BitVec 32 := 2#32
  let v3 : BitVec 32 := Scalar.shrsi v2 c2_i32
  let c1_i32_0 : BitVec 32 := 1#32
  let v4 : BitVec 32 := Scalar.andi v3 c1_i32_0
  let c192_i32_34 : BitVec 32 := 192#32
  let v58 : BitVec 32 := Scalar.muli v4 c192_i32_34
  let v59 : BitVec 32 := Scalar.addi v52 v58
  let c256_i32_512 : BitVec 32 := 256#32
  ![v59.toNat, 256]
def k0_dev23 (d0 : Dev nD) : Nat :=
  let c0_i32_511 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v9 : BitVec 32 := Scalar.xori v2 c4_i32
  let c1_i32_510 : BitVec 32 := 1#32
  let v792 : BitVec 32 := Scalar.muli v9 c1_i32_510
  let v793 : BitVec 32 := Scalar.addi c0_i32_511 v792
  v793.toNat
def k0_off85 (d0 : Dev nD) : Fin 2 → Nat :=
  let c0_i32_41 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c768_i32_40 : BitVec 32 := 768#32
  let v65 : BitVec 32 := Scalar.muli v6 c768_i32_40
  let v66 : BitVec 32 := Scalar.addi c0_i32_41 v65
  let c2_i32 : BitVec 32 := 2#32
  let v3 : BitVec 32 := Scalar.shrsi v2 c2_i32
  let c1_i32_0 : BitVec 32 := 1#32
  let v4 : BitVec 32 := Scalar.andi v3 c1_i32_0
  let c384_i32_45 : BitVec 32 := 384#32
  let v72 : BitVec 32 := Scalar.muli v4 c384_i32_45
  let v73 : BitVec 32 := Scalar.addi v66 v72
  let c1_i32_3 : BitVec 32 := 1#32
  let v7 : BitVec 32 := Scalar.andi v2 c1_i32_3
  let v8 : BitVec 32 := Scalar.xori v7 v6
  let c192_i32_49 : BitVec 32 := 192#32
  let v79 : BitVec 32 := Scalar.muli v8 c192_i32_49
  let v80 : BitVec 32 := Scalar.addi v73 v79
  let c512_i32_532 : BitVec 32 := 512#32
  ![v80.toNat, 512]
def k0_dev24 (d0 : Dev nD) : Nat :=
  let c0_i32_531 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_4 : BitVec 32 := 4#32
  let v10 : BitVec 32 := Scalar.andi v2 c4_i32_4
  let c3_i32 : BitVec 32 := 3#32
  let v11 : BitVec 32 := Scalar.andi v2 c3_i32
  let c1_i32_5 : BitVec 32 := 1#32
  let v12 : BitVec 32 := Scalar.xori v11 c1_i32_5
  let v13 : BitVec 32 := Scalar.ori v10 v12
  let c1_i32_530 : BitVec 32 := 1#32
  let v829 : BitVec 32 := Scalar.muli v13 c1_i32_530
  let v830 : BitVec 32 := Scalar.addi c0_i32_531 v829
  v830.toNat
def k0_off86 (d0 : Dev nD) : Fin 2 → Nat :=
  let c0_i32_56 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c768_i32_55 : BitVec 32 := 768#32
  let v86 : BitVec 32 := Scalar.muli v4 c768_i32_55
  let v87 : BitVec 32 := Scalar.addi c0_i32_56 v86
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c384_i32_60 : BitVec 32 := 384#32
  let v93 : BitVec 32 := Scalar.muli v8 c384_i32_60
  let v94 : BitVec 32 := Scalar.addi v87 v93
  let c192_i32_64 : BitVec 32 := 192#32
  let v100 : BitVec 32 := Scalar.muli v6 c192_i32_64
  let v101 : BitVec 32 := Scalar.addi v94 v100
  let c768_i32_552 : BitVec 32 := 768#32
  ![v101.toNat, 768]
def k0_dev25 (d0 : Dev nD) : Nat :=
  let c0_i32_551 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_6 : BitVec 32 := 4#32
  let v14 : BitVec 32 := Scalar.andi v2 c4_i32_6
  let c3_i32_8 : BitVec 32 := 3#32
  let c3_i32_7 : BitVec 32 := 3#32
  let v15 : BitVec 32 := Scalar.andi v2 c3_i32_7
  let v16 : BitVec 32 := Scalar.subi c3_i32_8 v15
  let v17 : BitVec 32 := Scalar.ori v14 v16
  let c1_i32_550 : BitVec 32 := 1#32
  let v866 : BitVec 32 := Scalar.muli v17 c1_i32_550
  let v867 : BitVec 32 := Scalar.addi c0_i32_551 v866
  v867.toNat
def k0_off87 (d0 : Dev nD) : Fin 2 → Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c768_i32_70 : BitVec 32 := 768#32
  let v107 : BitVec 32 := Scalar.muli v8 c768_i32_70
  let v108 : BitVec 32 := Scalar.addi c0_i32_71 v107
  let c384_i32_75 : BitVec 32 := 384#32
  let v114 : BitVec 32 := Scalar.muli v6 c384_i32_75
  let v115 : BitVec 32 := Scalar.addi v108 v114
  let c2_i32 : BitVec 32 := 2#32
  let v3 : BitVec 32 := Scalar.shrsi v2 c2_i32
  let c1_i32_0 : BitVec 32 := 1#32
  let v4 : BitVec 32 := Scalar.andi v3 c1_i32_0
  let c192_i32_79 : BitVec 32 := 192#32
  let v121 : BitVec 32 := Scalar.muli v4 c192_i32_79
  let v122 : BitVec 32 := Scalar.addi v115 v121
  let c1024_i32_572 : BitVec 32 := 1024#32
  ![v122.toNat, 1024]
def k0_dev26 (d0 : Dev nD) : Nat :=
  let c0_i32_571 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v9 : BitVec 32 := Scalar.xori v2 c4_i32
  let c1_i32_570 : BitVec 32 := 1#32
  let v903 : BitVec 32 := Scalar.muli v9 c1_i32_570
  let v904 : BitVec 32 := Scalar.addi c0_i32_571 v903
  v904.toNat
def k0_off88 (d0 : Dev nD) : Fin 2 → Nat :=
  let c0_i32_86 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c768_i32_85 : BitVec 32 := 768#32
  let v128 : BitVec 32 := Scalar.muli v6 c768_i32_85
  let v129 : BitVec 32 := Scalar.addi c0_i32_86 v128
  let c2_i32 : BitVec 32 := 2#32
  let v3 : BitVec 32 := Scalar.shrsi v2 c2_i32
  let c1_i32_0 : BitVec 32 := 1#32
  let v4 : BitVec 32 := Scalar.andi v3 c1_i32_0
  let c384_i32_90 : BitVec 32 := 384#32
  let v135 : BitVec 32 := Scalar.muli v4 c384_i32_90
  let v136 : BitVec 32 := Scalar.addi v129 v135
  let c1_i32_3 : BitVec 32 := 1#32
  let v7 : BitVec 32 := Scalar.andi v2 c1_i32_3
  let v8 : BitVec 32 := Scalar.xori v7 v6
  let c192_i32_94 : BitVec 32 := 192#32
  let v142 : BitVec 32 := Scalar.muli v8 c192_i32_94
  let v143 : BitVec 32 := Scalar.addi v136 v142
  let c1280_i32_592 : BitVec 32 := 1280#32
  ![v143.toNat, 1280]
def k0_dev27 (d0 : Dev nD) : Nat :=
  let c0_i32_591 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_4 : BitVec 32 := 4#32
  let v10 : BitVec 32 := Scalar.andi v2 c4_i32_4
  let c3_i32 : BitVec 32 := 3#32
  let v11 : BitVec 32 := Scalar.andi v2 c3_i32
  let c1_i32_5 : BitVec 32 := 1#32
  let v12 : BitVec 32 := Scalar.xori v11 c1_i32_5
  let v13 : BitVec 32 := Scalar.ori v10 v12
  let c1_i32_590 : BitVec 32 := 1#32
  let v940 : BitVec 32 := Scalar.muli v13 c1_i32_590
  let v941 : BitVec 32 := Scalar.addi c0_i32_591 v940
  v941.toNat
def k0_off89 (d0 : Dev nD) : Fin 2 → Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c768_i32_12 : BitVec 32 := 768#32
  let v23 : BitVec 32 := Scalar.muli v4 c768_i32_12
  let v24 : BitVec 32 := Scalar.addi c0_i32_13 v23
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c384_i32_16 : BitVec 32 := 384#32
  let v30 : BitVec 32 := Scalar.muli v8 c384_i32_16
  let v31 : BitVec 32 := Scalar.addi v24 v30
  let c0_i32_603 : BitVec 32 := 0#32
  ![v31.toNat, 0]
def k0_dev28 (d0 : Dev nD) : Nat :=
  let c0_i32_602 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_4 : BitVec 32 := 4#32
  let v10 : BitVec 32 := Scalar.andi v2 c4_i32_4
  let c3_i32 : BitVec 32 := 3#32
  let v11 : BitVec 32 := Scalar.andi v2 c3_i32
  let c1_i32_5 : BitVec 32 := 1#32
  let v12 : BitVec 32 := Scalar.xori v11 c1_i32_5
  let v13 : BitVec 32 := Scalar.ori v10 v12
  let c1_i32_601 : BitVec 32 := 1#32
  let v954 : BitVec 32 := Scalar.muli v13 c1_i32_601
  let v955 : BitVec 32 := Scalar.addi c0_i32_602 v954
  v955.toNat
def k0_off90 (d0 : Dev nD) : Fin 2 → Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c768_i32_25 : BitVec 32 := 768#32
  let v44 : BitVec 32 := Scalar.muli v8 c768_i32_25
  let v45 : BitVec 32 := Scalar.addi c0_i32_26 v44
  let c384_i32_30 : BitVec 32 := 384#32
  let v51 : BitVec 32 := Scalar.muli v6 c384_i32_30
  let v52 : BitVec 32 := Scalar.addi v45 v51
  let c256_i32_614 : BitVec 32 := 256#32
  ![v52.toNat, 256]
def k0_dev29 (d0 : Dev nD) : Nat :=
  let c0_i32_613 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_6 : BitVec 32 := 4#32
  let v14 : BitVec 32 := Scalar.andi v2 c4_i32_6
  let c3_i32_8 : BitVec 32 := 3#32
  let c3_i32_7 : BitVec 32 := 3#32
  let v15 : BitVec 32 := Scalar.andi v2 c3_i32_7
  let v16 : BitVec 32 := Scalar.subi c3_i32_8 v15
  let v17 : BitVec 32 := Scalar.ori v14 v16
  let c1_i32_612 : BitVec 32 := 1#32
  let v968 : BitVec 32 := Scalar.muli v17 c1_i32_612
  let v969 : BitVec 32 := Scalar.addi c0_i32_613 v968
  v969.toNat
def k0_off91 (d0 : Dev nD) : Fin 2 → Nat :=
  let c0_i32_41 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c768_i32_40 : BitVec 32 := 768#32
  let v65 : BitVec 32 := Scalar.muli v6 c768_i32_40
  let v66 : BitVec 32 := Scalar.addi c0_i32_41 v65
  let c2_i32 : BitVec 32 := 2#32
  let v3 : BitVec 32 := Scalar.shrsi v2 c2_i32
  let c1_i32_0 : BitVec 32 := 1#32
  let v4 : BitVec 32 := Scalar.andi v3 c1_i32_0
  let c384_i32_45 : BitVec 32 := 384#32
  let v72 : BitVec 32 := Scalar.muli v4 c384_i32_45
  let v73 : BitVec 32 := Scalar.addi v66 v72
  let c512_i32_625 : BitVec 32 := 512#32
  ![v73.toNat, 512]
def k0_dev30 (d0 : Dev nD) : Nat :=
  let c0_i32_624 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v9 : BitVec 32 := Scalar.xori v2 c4_i32
  let c1_i32_623 : BitVec 32 := 1#32
  let v982 : BitVec 32 := Scalar.muli v9 c1_i32_623
  let v983 : BitVec 32 := Scalar.addi c0_i32_624 v982
  v983.toNat
def k0_off92 (d0 : Dev nD) : Fin 2 → Nat :=
  let c0_i32_56 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c768_i32_55 : BitVec 32 := 768#32
  let v86 : BitVec 32 := Scalar.muli v4 c768_i32_55
  let v87 : BitVec 32 := Scalar.addi c0_i32_56 v86
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c384_i32_60 : BitVec 32 := 384#32
  let v93 : BitVec 32 := Scalar.muli v8 c384_i32_60
  let v94 : BitVec 32 := Scalar.addi v87 v93
  let c768_i32_636 : BitVec 32 := 768#32
  ![v94.toNat, 768]
def k0_dev31 (d0 : Dev nD) : Nat :=
  let c0_i32_635 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_4 : BitVec 32 := 4#32
  let v10 : BitVec 32 := Scalar.andi v2 c4_i32_4
  let c3_i32 : BitVec 32 := 3#32
  let v11 : BitVec 32 := Scalar.andi v2 c3_i32
  let c1_i32_5 : BitVec 32 := 1#32
  let v12 : BitVec 32 := Scalar.xori v11 c1_i32_5
  let v13 : BitVec 32 := Scalar.ori v10 v12
  let c1_i32_634 : BitVec 32 := 1#32
  let v996 : BitVec 32 := Scalar.muli v13 c1_i32_634
  let v997 : BitVec 32 := Scalar.addi c0_i32_635 v996
  v997.toNat
def k0_off93 (d0 : Dev nD) : Fin 2 → Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c768_i32_70 : BitVec 32 := 768#32
  let v107 : BitVec 32 := Scalar.muli v8 c768_i32_70
  let v108 : BitVec 32 := Scalar.addi c0_i32_71 v107
  let c384_i32_75 : BitVec 32 := 384#32
  let v114 : BitVec 32 := Scalar.muli v6 c384_i32_75
  let v115 : BitVec 32 := Scalar.addi v108 v114
  let c1024_i32_647 : BitVec 32 := 1024#32
  ![v115.toNat, 1024]
def k0_dev32 (d0 : Dev nD) : Nat :=
  let c0_i32_646 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_6 : BitVec 32 := 4#32
  let v14 : BitVec 32 := Scalar.andi v2 c4_i32_6
  let c3_i32_8 : BitVec 32 := 3#32
  let c3_i32_7 : BitVec 32 := 3#32
  let v15 : BitVec 32 := Scalar.andi v2 c3_i32_7
  let v16 : BitVec 32 := Scalar.subi c3_i32_8 v15
  let v17 : BitVec 32 := Scalar.ori v14 v16
  let c1_i32_645 : BitVec 32 := 1#32
  let v1010 : BitVec 32 := Scalar.muli v17 c1_i32_645
  let v1011 : BitVec 32 := Scalar.addi c0_i32_646 v1010
  v1011.toNat
def k0_off94 (d0 : Dev nD) : Fin 2 → Nat :=
  let c0_i32_86 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c768_i32_85 : BitVec 32 := 768#32
  let v128 : BitVec 32 := Scalar.muli v6 c768_i32_85
  let v129 : BitVec 32 := Scalar.addi c0_i32_86 v128
  let c2_i32 : BitVec 32 := 2#32
  let v3 : BitVec 32 := Scalar.shrsi v2 c2_i32
  let c1_i32_0 : BitVec 32 := 1#32
  let v4 : BitVec 32 := Scalar.andi v3 c1_i32_0
  let c384_i32_90 : BitVec 32 := 384#32
  let v135 : BitVec 32 := Scalar.muli v4 c384_i32_90
  let v136 : BitVec 32 := Scalar.addi v129 v135
  let c1280_i32_658 : BitVec 32 := 1280#32
  ![v136.toNat, 1280]
def k0_dev33 (d0 : Dev nD) : Nat :=
  let c0_i32_657 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v9 : BitVec 32 := Scalar.xori v2 c4_i32
  let c1_i32_656 : BitVec 32 := 1#32
  let v1024 : BitVec 32 := Scalar.muli v9 c1_i32_656
  let v1025 : BitVec 32 := Scalar.addi c0_i32_657 v1024
  v1025.toNat
def k0_off95 (d0 : Dev nD) : Fin 2 → Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c768_i32_12 : BitVec 32 := 768#32
  let v23 : BitVec 32 := Scalar.muli v4 c768_i32_12
  let v24 : BitVec 32 := Scalar.addi c0_i32_13 v23
  let c0_i32_669 : BitVec 32 := 0#32
  ![v24.toNat, 0]
def k0_dev34 (d0 : Dev nD) : Nat :=
  let c0_i32_668 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v9 : BitVec 32 := Scalar.xori v2 c4_i32
  let c1_i32_667 : BitVec 32 := 1#32
  let v1038 : BitVec 32 := Scalar.muli v9 c1_i32_667
  let v1039 : BitVec 32 := Scalar.addi c0_i32_668 v1038
  v1039.toNat
def k0_off96 (d0 : Dev nD) : Fin 2 → Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c768_i32_25 : BitVec 32 := 768#32
  let v44 : BitVec 32 := Scalar.muli v8 c768_i32_25
  let v45 : BitVec 32 := Scalar.addi c0_i32_26 v44
  let c256_i32_680 : BitVec 32 := 256#32
  ![v45.toNat, 256]
def k0_dev35 (d0 : Dev nD) : Nat :=
  let c0_i32_679 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_4 : BitVec 32 := 4#32
  let v10 : BitVec 32 := Scalar.andi v2 c4_i32_4
  let c3_i32 : BitVec 32 := 3#32
  let v11 : BitVec 32 := Scalar.andi v2 c3_i32
  let c1_i32_5 : BitVec 32 := 1#32
  let v12 : BitVec 32 := Scalar.xori v11 c1_i32_5
  let v13 : BitVec 32 := Scalar.ori v10 v12
  let c1_i32_678 : BitVec 32 := 1#32
  let v1052 : BitVec 32 := Scalar.muli v13 c1_i32_678
  let v1053 : BitVec 32 := Scalar.addi c0_i32_679 v1052
  v1053.toNat
def k0_off97 (d0 : Dev nD) : Fin 2 → Nat :=
  let c0_i32_41 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c768_i32_40 : BitVec 32 := 768#32
  let v65 : BitVec 32 := Scalar.muli v6 c768_i32_40
  let v66 : BitVec 32 := Scalar.addi c0_i32_41 v65
  let c512_i32_691 : BitVec 32 := 512#32
  ![v66.toNat, 512]
def k0_dev36 (d0 : Dev nD) : Nat :=
  let c0_i32_690 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_6 : BitVec 32 := 4#32
  let v14 : BitVec 32 := Scalar.andi v2 c4_i32_6
  let c3_i32_8 : BitVec 32 := 3#32
  let c3_i32_7 : BitVec 32 := 3#32
  let v15 : BitVec 32 := Scalar.andi v2 c3_i32_7
  let v16 : BitVec 32 := Scalar.subi c3_i32_8 v15
  let v17 : BitVec 32 := Scalar.ori v14 v16
  let c1_i32_689 : BitVec 32 := 1#32
  let v1066 : BitVec 32 := Scalar.muli v17 c1_i32_689
  let v1067 : BitVec 32 := Scalar.addi c0_i32_690 v1066
  v1067.toNat
def k0_off98 (d0 : Dev nD) : Fin 2 → Nat :=
  let c0_i32_56 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v3 : BitVec 32 := Scalar.shrsi v2 c2_i32
  let c1_i32_0 : BitVec 32 := 1#32
  let v4 : BitVec 32 := Scalar.andi v3 c1_i32_0
  let c768_i32_55 : BitVec 32 := 768#32
  let v86 : BitVec 32 := Scalar.muli v4 c768_i32_55
  let v87 : BitVec 32 := Scalar.addi c0_i32_56 v86
  let c768_i32_702 : BitVec 32 := 768#32
  ![v87.toNat, 768]
def k0_dev37 (d0 : Dev nD) : Nat :=
  let c0_i32_701 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v9 : BitVec 32 := Scalar.xori v2 c4_i32
  let c1_i32_700 : BitVec 32 := 1#32
  let v1080 : BitVec 32 := Scalar.muli v9 c1_i32_700
  let v1081 : BitVec 32 := Scalar.addi c0_i32_701 v1080
  v1081.toNat
def k0_off99 (d0 : Dev nD) : Fin 2 → Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.andi v2 c1_i32_3
  let c1_i32_1 : BitVec 32 := 1#32
  let v5 : BitVec 32 := Scalar.shrsi v2 c1_i32_1
  let c1_i32_2 : BitVec 32 := 1#32
  let v6 : BitVec 32 := Scalar.andi v5 c1_i32_2
  let v8 : BitVec 32 := Scalar.xori v7 v6
  let c768_i32_70 : BitVec 32 := 768#32
  let v107 : BitVec 32 := Scalar.muli v8 c768_i32_70
  let v108 : BitVec 32 := Scalar.addi c0_i32_71 v107
  let c1024_i32_713 : BitVec 32 := 1024#32
  ![v108.toNat, 1024]
def k0_dev38 (d0 : Dev nD) : Nat :=
  let c0_i32_712 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_4 : BitVec 32 := 4#32
  let v10 : BitVec 32 := Scalar.andi v2 c4_i32_4
  let c3_i32 : BitVec 32 := 3#32
  let v11 : BitVec 32 := Scalar.andi v2 c3_i32
  let c1_i32_5 : BitVec 32 := 1#32
  let v12 : BitVec 32 := Scalar.xori v11 c1_i32_5
  let v13 : BitVec 32 := Scalar.ori v10 v12
  let c1_i32_711 : BitVec 32 := 1#32
  let v1094 : BitVec 32 := Scalar.muli v13 c1_i32_711
  let v1095 : BitVec 32 := Scalar.addi c0_i32_712 v1094
  v1095.toNat
def k0_off100 (d0 : Dev nD) : Fin 2 → Nat :=
  let c0_i32_86 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c768_i32_85 : BitVec 32 := 768#32
  let v128 : BitVec 32 := Scalar.muli v6 c768_i32_85
  let v129 : BitVec 32 := Scalar.addi c0_i32_86 v128
  let c1280_i32_724 : BitVec 32 := 1280#32
  ![v129.toNat, 1280]
def k0_dev39 (d0 : Dev nD) : Nat :=
  let c0_i32_723 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_6 : BitVec 32 := 4#32
  let v14 : BitVec 32 := Scalar.andi v2 c4_i32_6
  let c3_i32_8 : BitVec 32 := 3#32
  let c3_i32_7 : BitVec 32 := 3#32
  let v15 : BitVec 32 := Scalar.andi v2 c3_i32_7
  let v16 : BitVec 32 := Scalar.subi c3_i32_8 v15
  let v17 : BitVec 32 := Scalar.ori v14 v16
  let c1_i32_722 : BitVec 32 := 1#32
  let v1108 : BitVec 32 := Scalar.muli v17 c1_i32_722
  let v1109 : BitVec 32 := Scalar.addi c0_i32_723 v1108
  v1109.toNat
abbrev stage0_0 : Fin 1 → Memref sig .tc .vmem S1536x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1536x6144 : Shape := ⟨2, ![1536, 6144]⟩
abbrev S6144x1536 : Shape := ⟨2, ![6144, 1536]⟩
abbrev S1536x1536 : Shape := ⟨2, ![1536, 1536]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S1536x6144, .bf16⟩
  | .hbm, ⟨1, _⟩ => ⟨S6144x1536, .bf16⟩
  | .hbm, ⟨2, _⟩ => ⟨S1536x1536, .f32⟩
  | .hbm, ⟨3, _⟩ => ⟨S_, .f32⟩
  | .hbm, ⟨4, _⟩ => ⟨S1536x1536, .f32⟩
  | .hbm, ⟨5, _⟩ => ⟨S1536x1536, .f32⟩
  | .hbm, ⟨6, _⟩ => ⟨S_, .f32⟩
  | .hbm, ⟨7, _⟩ => ⟨S1536x1536, .f32⟩
  | .hbm, ⟨8, _⟩ => ⟨S1536x1536, .f32⟩
  | .hbm, ⟨9, _⟩ => ⟨S1536x1536, .f32⟩
  | .hbm, ⟨10, _⟩ => ⟨S1536x1536, .f32⟩
  | .hbm, ⟨11, _⟩ => ⟨S1536x1536, .f32⟩
  | .hbm, ⟨12, _⟩ => ⟨S_, .f32⟩
  | .hbm, ⟨13, _⟩ => ⟨S1536x1536, .f32⟩
  | .hbm, ⟨14, _⟩ => ⟨S1536x1536, .f32⟩
  | .hbm, ⟨15, _⟩ => ⟨S1536x1536, .f32⟩
  | .hbm, ⟨16, _⟩ => ⟨S_, .f32⟩
  | .hbm, ⟨17, _⟩ => ⟨S1536x1536, .f32⟩
  | .hbm, ⟨18, _⟩ => ⟨S1536x1536, .f32⟩
  | .hbm, ⟨19, _⟩ => ⟨S1536x1536, .f32⟩
  | .hbm, ⟨20, _⟩ => ⟨S1536x1536, .bf16⟩
  | _, _ => ⟨S1536x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.Tables.lean ====
/-
The numbers of the exchange.

Every device holds three bits (`bit c 0`, `bit c 1`, `bit c 2`) and has one partner for each of them (`peer c d`:
the device whose bit `d` is the other one and whose other two bits are the same). The result is cut into six
chunks of 256 columns; chunk `k` goes through the three partners in the order `k, k+1, k+2` (mod 3). This module
gives names, as functions of the chunk, the step and the device, to the offsets and device numbers the program
computes, and proves for each its closed form.
-/
module

public import proofs.«01_k».proof.Proof.Gen.KernelIdeal
public import proofs.«01_k».proof.Proof.Gen.KernelIdeal.Skeleton

@[expose] public section

noncomputable section

namespace Cert.KProof

open Cert.KernelIdeal Cert.KernelIdeal.Gen
open Idealize.ShloMosaic

/-! ## Bits and partners -/

/-- Bit `d` of device `c`, as a number. -/
def bitN (c : ℕ) : ℕ → ℕ
  | 0 => c / 4 % 2
  | 1 => (c + c / 2) % 2
  | _ => c / 2 % 2

/-- The number of the device whose bit `d` is the other one. -/
def peerN (c : ℕ) : ℕ → ℕ
  | 0 => (c + 4) % 8
  | 1 => c / 2 * 2 + (1 - c % 2)
  | _ => c / 4 * 4 + (3 - c % 4)

theorem peerN_lt (c : Dev nD) (d : Fin 3) : peerN c.val d.val < 8 := by revert c d; decide

/-- The partner of device `c` for bit `d`. -/
def peer (c : Dev nD) (d : Fin 3) : Dev nD := ⟨peerN c.val d.val, peerN_lt c d⟩

/-- Bit `d` of device `c`. -/
def bit (c : Dev nD) (d : Fin 3) : ℕ := bitN c.val d.val

/-- The bit that chunk `k` exchanges at step `s`. -/
def dim (k : Fin 6) (s : Fin 3) : Fin 3 := ⟨(k.val + s.val) % 3, Nat.mod_lt _ (by decide)⟩

/-- The partner of `c` for step `s` of chunk `k`. -/
def par (c : Dev nD) (k : Fin 6) (s : Fin 3) : Dev nD := peer c (dim k s)

theorem peer_peer (c : Dev nD) (d : Fin 3) : peer (peer c d) d = c := by revert c d; decide
theorem par_par (c : Dev nD) (k : Fin 6) (s : Fin 3) : par (par c k s) k s = c := peer_peer _ _

/-- Rows of the block exchanged at step `s`. -/
def SZ : Fin 3 → ℕ
  | 0 => 768
  | 1 => 384
  | 2 => 192

/-- First row of the part of the receive buffer that step `s` lands in. -/
def RB : Fin 3 → ℕ
  | 0 => 0
  | 1 => 768
  | 2 => 1152

/-- A block of `SZ s` rows of one chunk. -/
abbrev Sh (s : Fin 3) : Shape := ⟨2, ![SZ s, 256]⟩

/-- First row of the part of chunk `k` that device `c` still works on after `i` steps. -/
def base (c : Dev nD) (k : Fin 6) : ℕ → ℕ
  | 0 => 0
  | 1 => bit c (dim k 0) * 768
  | 2 => bit c (dim k 0) * 768 + bit c (dim k 1) * 384
  | _ => bit c (dim k 0) * 768 + bit c (dim k 1) * 384 + bit c (dim k 2) * 192

/-! ## The program's offsets, by chunk and step -/

/-- Rows of the left operand that make the half of chunk `k` that is sent first. -/
def rowSend : Fin 6 → Dev nD → Fin 2 → ℕ
  | 0 => fun c => k0_off1 c 2#32
  | 1 => k0_off6
  | 2 => fun c => k0_off1 c 1#32
  | 3 => fun c => k0_off1 c 2#32
  | 4 => k0_off6
  | 5 => fun c => k0_off1 c 1#32

/-- Rows of the left operand that make the half of chunk `k` that stays. -/
def rowKeep : Fin 6 → Dev nD → Fin 2 → ℕ
  | 0 => fun c => k0_off4 c 2#32
  | 1 => k0_off9
  | 2 => fun c => k0_off4 c 1#32
  | 3 => fun c => k0_off4 c 2#32
  | 4 => k0_off9
  | 5 => fun c => k0_off4 c 1#32

/-- Where the half of chunk `k` to be sent is stored. -/
def stSend : Fin 6 → Dev nD → Fin 2 → ℕ
  | 0 => k0_off2
  | 1 => k0_off7
  | 2 => k0_off11
  | 3 => k0_off14
  | 4 => k0_off17
  | 5 => k0_off20

/-- Where the half of chunk `k` that stays is stored. -/
def stKeep : Fin 6 → Dev nD → Fin 2 → ℕ
  | 0 => k0_off5
  | 1 => k0_off10
  | 2 => k0_off13
  | 3 => k0_off16
  | 4 => k0_off19
  | 5 => k0_off22

/-- Where the source of the reduce-scatter copy of step `s`, chunk `k` begins. -/
def srcOff : Fin 3 → Fin 6 → Dev nD → Fin 2 → ℕ
  | 0, 0 => k0_off3
  | 0, 1 => k0_off8
  | 0, 2 => k0_off12
  | 0, 3 => k0_off15
  | 0, 4 => k0_off18
  | 0, 5 => k0_off21
  | 1, 0 => k0_off25
  | 1, 1 => k0_off30
  | 1, 2 => k0_off35
  | 1, 3 => k0_off40
  | 1, 4 => k0_off45
  | 1, 5 => k0_off50
  | 2, 0 => k0_off55
  | 2, 1 => k0_off60
  | 2, 2 => k0_off65
  | 2, 3 => k0_off70
  | 2, 4 => k0_off75
  | 2, 5 => k0_off80

/-- The half of the result that is summed and sent on, after step `e` of the reduce-scatter, chunk `k`. -/
def addOff : Fin 2 → Fin 6 → Dev nD → Fin 2 → ℕ
  | 0, 0 => k0_off23
  | 0, 1 => k0_off28
  | 0, 2 => k0_off33
  | 0, 3 => k0_off38
  | 0, 4 => k0_off43
  | 0, 5 => k0_off48
  | 1, 0 => k0_off53
  | 1, 1 => k0_off58
  | 1, 2 => k0_off63
  | 1, 3 => k0_off68
  | 1, 4 => k0_off73
  | 1, 5 => k0_off78

/-- The received half that is added to what is sent on, after step `e` of the reduce-scatter, chunk `k`. -/
def addRecv : Fin 2 → Fin 6 → Dev nD → Fin 2 → ℕ
  | 0, 0 => k0_off24
  | 0, 1 => k0_off29
  | 0, 2 => k0_off34
  | 0, 3 => k0_off39
  | 0, 4 => k0_off44
  | 0, 5 => k0_off49
  | 1, 0 => k0_off54
  | 1, 1 => k0_off59
  | 1, 2 => k0_off64
  | 1, 3 => k0_off69
  | 1, 4 => k0_off74
  | 1, 5 => k0_off79

/-- The half of the result that is summed and stays, after step `e` of the reduce-scatter, chunk `k`. -/
def keepOff : Fin 2 → Fin 6 → Dev nD → Fin 2 → ℕ
  | 0, 0 => k0_off26
  | 0, 1 => k0_off31
  | 0, 2 => k0_off36
  | 0, 3 => k0_off41
  | 0, 4 => k0_off46
  | 0, 5 => k0_off51
  | 1, 0 => k0_off56
  | 1, 1 => k0_off61
  | 1, 2 => k0_off66
  | 1, 3 => k0_off71
  | 1, 4 => k0_off76
  | 1, 5 => k0_off81

/-- The received half that is added to what stays, after step `e` of the reduce-scatter, chunk `k`. -/
def keepRecv : Fin 2 → Fin 6 → Dev nD → Fin 2 → ℕ
  | 0, 0 => k0_off27
  | 0, 1 => k0_off32
  | 0, 2 => k0_off37
  | 0, 3 => k0_off42
  | 0, 4 => k0_off47
  | 0, 5 => k0_off52
  | 1, 0 => k0_off57
  | 1, 1 => k0_off62
  | 1, 2 => k0_off67
  | 1, 3 => k0_off72
  | 1, 4 => k0_off77
  | 1, 5 => k0_off82

/-- Where the all-gather copy of step `s`, chunk `k` begins, at both ends. -/
def agOff : Fin 3 → Fin 6 → Dev nD → Fin 2 → ℕ
  | 0, 0 => k0_off83
  | 0, 1 => k0_off84
  | 0, 2 => k0_off85
  | 0, 3 => k0_off86
  | 0, 4 => k0_off87
  | 0, 5 => k0_off88
  | 1, 0 => k0_off89
  | 1, 1 => k0_off90
  | 1, 2 => k0_off91
  | 1, 3 => k0_off92
  | 1, 4 => k0_off93
  | 1, 5 => k0_off94
  | 2, 0 => k0_off95
  | 2, 1 => k0_off96
  | 2, 2 => k0_off97
  | 2, 3 => k0_off98
  | 2, 4 => k0_off99
  | 2, 5 => k0_off100

/-- The device the copy of phase `ph` (false: reduce-scatter, true: all-gather), step `s`, chunk `k` goes to. -/
def devNo : Bool → Fin 3 → Fin 6 → Dev nD → ℕ
  | false, 0, 0 => k0_dev4
  | false, 0, 1 => k0_dev5
  | false, 0, 2 => k0_dev6
  | false, 0, 3 => k0_dev7
  | false, 0, 4 => k0_dev8
  | false, 0, 5 => k0_dev9
  | false, 1, 0 => k0_dev10
  | false, 1, 1 => k0_dev11
  | false, 1, 2 => k0_dev12
  | false, 1, 3 => k0_dev13
  | false, 1, 4 => k0_dev14
  | false, 1, 5 => k0_dev15
  | false, 2, 0 => k0_dev16
  | false, 2, 1 => k0_dev17
  | false, 2, 2 => k0_dev18
  | false, 2, 3 => k0_dev19
  | false, 2, 4 => k0_dev20
  | false, 2, 5 => k0_dev21
  | true, 0, 0 => k0_dev22
  | true, 0, 1 => k0_dev23
  | true, 0, 2 => k0_dev24
  | true, 0, 3 => k0_dev25
  | true, 0, 4 => k0_dev26
  | true, 0, 5 => k0_dev27
  | true, 1, 0 => k0_dev28
  | true, 1, 1 => k0_dev29
  | true, 1, 2 => k0_dev30
  | true, 1, 3 => k0_dev31
  | true, 1, 4 => k0_dev32
  | true, 1, 5 => k0_dev33
  | true, 2, 0 => k0_dev34
  | true, 2, 1 => k0_dev35
  | true, 2, 2 => k0_dev36
  | true, 2, 3 => k0_dev37
  | true, 2, 4 => k0_dev38
  | true, 2, 5 => k0_dev39

/-! ## Their closed forms -/

/-- First column of chunk `k`. -/
abbrev col (k : Fin 6) : ℕ := 256 * k.val

/-- First row of what `c` sends at step `s` of chunk `k`: its partner's part after the step. -/
def sbase (c : Dev nD) (k : Fin 6) (s : Fin 3) : ℕ := base (par c k s) k (s.val + 1)

theorem rowSend_eq : ∀ k c, rowSend k c = ![sbase c k 0, 0] := by decide +kernel
theorem rowKeep_eq : ∀ k c, rowKeep k c = ![base c k 1, 0] := by decide +kernel
theorem stSend_eq : ∀ k c, stSend k c = ![sbase c k 0, col k] := by decide +kernel
theorem stKeep_eq : ∀ k c, stKeep k c = ![base c k 1, col k] := by decide +kernel
theorem srcOff_eq : ∀ s k c, srcOff s k c = ![sbase c k s, col k] := by decide +kernel
theorem addOff_eq : ∀ e k c, addOff e k c = ![sbase c k e.succ, col k] := by decide +kernel
theorem keepOff_eq : ∀ e k c, keepOff e k c = ![base c k (e.val + 2), col k] := by decide +kernel
theorem addRecv_eq : ∀ e k c, addRecv e k c
    = ![RB e.castSucc + (sbase c k e.succ - base c k (e.val + 1)), col k] := by decide +kernel
theorem keepRecv_eq : ∀ e k c, keepRecv e k c
    = ![RB e.castSucc + (base c k (e.val + 2) - base c k (e.val + 1)), col k] := by decide +kernel
theorem agOff_eq : ∀ s k c, agOff s k c = ![base c k (3 - s.val), col k] := by decide +kernel
theorem devNo_rs : ∀ s k c, devNo false s k c = (par c k s).val := by decide +kernel
theorem devNo_ag : ∀ s k c, devNo true s k c = (par c k s.rev).val := by decide +kernel
theorem dev1_eq : ∀ c, k0_dev1 c = (peer c 0).val := by decide +kernel
theorem dev2_eq : ∀ c, k0_dev2 c = (peer c 1).val := by decide +kernel
theorem dev3_eq : ∀ c, k0_dev3 c = (peer c 2).val := by decide +kernel

end Cert.KProof
-- ==== Proof.Mirror.lean ====
/-
The program of the kernel's body, written with loops over chunks and steps.

`prog` is the body with its repeated passages named: `dotHalf` (one half of a chunk's product), `send`, `addHalf`,
`gelu`, the waits. `body_eq` says it is the printed body.
-/
module

public import proofs.«01_k».proof.Proof.Tables

@[expose] public section

noncomputable section

namespace Cert.KProof

open Cert.KernelIdeal Cert.KernelIdeal.Gen
open Idealize.ShloMosaic Idealize.SL.Sem

variable {F : FTy → Type} [FloatOps F]

/-- Programs of the body. -/
abbrev Pr (F : FTy → Type) [FloatOps F] := Prog (TpuEff nD τ sig (Elt F) Λ₀ .tc) PUnit

/-! ## The buffers and semaphores -/

abbrev aM : Memref sig .tc .vmem S1536x768 .bf16 := Memref.whole cc0_stg0_0
abbrev bM : Memref sig .tc .vmem S768x1536 .bf16 := Memref.whole cc0_stg1_0
abbrev outM : Memref sig .tc .vmem S1536x1536 .bf16 := Memref.whole cc0_stg2_0
abbrev a2M : Memref sig .tc .vmem S1536x768 .bf16 := Memref.whole cc0_scratch0
abbrev b2M : Memref sig .tc .vmem S768x1536 .bf16 := Memref.whole cc0_scratch1
abbrev rsM : Memref sig .tc .vmem S1344x1536 .bf16 := Memref.whole cc0_scratch2

theorem semIdx_inb : ∀ j : Fin 36, ∀ a, (![j.val] : Fin 1 → ℕ) a + S1.size a ≤ S36.size a := by decide +kernel

/-- The semaphore that counts departure of copy `j`. -/
abbrev sSemE (j : Fin 36) : DmaSem sig :=
  ((cc0_scratch3.slice (Rect.unit (s := S36) ![j.val] S1.size (semIdx_inb j))).squeeze S_ squeezes_S1_S_).sem
/-- The semaphore that counts arrival of copy `j`. -/
abbrev rSemE (j : Fin 36) : DmaSem sig :=
  ((cc0_scratch4.slice (Rect.unit (s := S36) ![j.val] S1.size (semIdx_inb j))).squeeze S_ squeezes_S1_S_).sem

/-- Number of the reduce-scatter copy of step `s`, chunk `k`. -/
abbrev rsIx (s : Fin 3) (k : Fin 6) : Fin 36 := ⟨6 * s.val + k.val, by omega⟩
/-- Number of the all-gather copy of step `s`, chunk `k`. -/
abbrev agIx (s : Fin 3) (k : Fin 6) : Fin 36 := ⟨18 + 6 * s.val + k.val, by omega⟩

/-! ## The side conditions of the accesses -/

theorem h_Sh : ∀ s, 0 < (Sh s).numel := by decide +kernel
theorem rowSend_inb : ∀ k c a, rowSend k c a + S768x768.size a ≤ S1536x768.size a := by decide +kernel
theorem rowKeep_inb : ∀ k c a, rowKeep k c a + S768x768.size a ≤ S1536x768.size a := by decide +kernel
theorem col_inb : ∀ (k : Fin 6) a, (![0, col k] : Fin 2 → ℕ) a + S768x256.size a ≤ S768x1536.size a := by
  decide +kernel
theorem col_pk : ∀ k : Fin 6, (Rect.unit (s := S768x1536) ![0, col k] S768x256.size (col_inb k)).PackedRows
    (EltTy.packing .bf16) := by decide +kernel
theorem stSend_inb : ∀ k c a, stSend k c a + (Sh 0).size a ≤ S1536x1536.size a := by decide +kernel
theorem stSend_pk : ∀ k c, (Rect.unit (s := S1536x1536) (stSend k c) (Sh 0).size (stSend_inb k c)).PackedRows
    (EltTy.packing .bf16) := by decide +kernel
theorem stKeep_inb : ∀ k c a, stKeep k c a + (Sh 0).size a ≤ S1536x1536.size a := by decide +kernel
theorem stKeep_pk : ∀ k c, (Rect.unit (s := S1536x1536) (stKeep k c) (Sh 0).size (stKeep_inb k c)).PackedRows
    (EltTy.packing .bf16) := by decide +kernel
theorem srcOff_inb : ∀ s k c a, srcOff s k c a + (Sh s).size a ≤ S1536x1536.size a := by decide +kernel
theorem srcOff_ww : ∀ s k c, (Rect.unit (s := S1536x1536) (srcOff s k c) (Sh s).size (srcOff_inb s k c)).WholeWords
    (EltTy.packing .bf16) := by decide +kernel
theorem dst_inb : ∀ (s : Fin 3) (k : Fin 6) a, (![RB s, col k] : Fin 2 → ℕ) a + (Sh s).size a ≤ S1344x1536.size a := by
  decide +kernel
theorem dst_ww : ∀ (s : Fin 3) (k : Fin 6),
    (Rect.unit (s := S1344x1536) ![RB s, col k] (Sh s).size (dst_inb s k)).WholeWords (EltTy.packing .bf16) := by
  decide +kernel
theorem addOff_inb : ∀ e k c a, addOff e k c a + (Sh e.succ).size a ≤ S1536x1536.size a := by decide +kernel
theorem addOff_pk : ∀ e k c, (Rect.unit (s := S1536x1536) (addOff e k c) (Sh e.succ).size
    (addOff_inb e k c)).PackedRows (EltTy.packing .bf16) := by decide +kernel
theorem addRecv_inb : ∀ e k c a, addRecv e k c a + (Sh e.succ).size a ≤ S1344x1536.size a := by decide +kernel
theorem keepOff_inb : ∀ e k c a, keepOff e k c a + (Sh e.succ).size a ≤ S1536x1536.size a := by decide +kernel
theorem keepOff_pk : ∀ e k c, (Rect.unit (s := S1536x1536) (keepOff e k c) (Sh e.succ).size
    (keepOff_inb e k c)).PackedRows (EltTy.packing .bf16) := by decide +kernel
theorem keepRecv_inb : ∀ e k c a, keepRecv e k c a + (Sh e.succ).size a ≤ S1344x1536.size a := by decide +kernel
theorem agOff_inb : ∀ s k c a, agOff s k c a + (Sh s.rev).size a ≤ S1536x1536.size a := by decide +kernel
theorem agOff_ww : ∀ s k c, (Rect.unit (s := S1536x1536) (agOff s k c) (Sh s.rev).size (agOff_inb s k c)).WholeWords
    (EltTy.packing .bf16) := by decide +kernel
theorem devNo_lt : ∀ b s k c, devNo b s k c < nD := by decide +kernel

/-! ## The payloads -/

theorem sc_Sh (s : Fin 3) : (Sh s).ShapeCasts (Sh s) := rfl
theorem sc_B : S768x256.ShapeCasts S768x256 := rfl

/-- A chunk of the right operand as it is copied to the scratch. -/
def copyPay (v : Vec F S768x256 .bf16) : FVec F S768x256 .bf16 := shapeCast S768x256 (shapeCast S768x256 v sc_B) sc_B
/-- One half of a chunk's product. -/
def dotPay (a : Vec F S768x768 .bf16) (b : Vec F S768x256 .bf16) : FVec F S768x256 .bf16 := k0_pay3 a b
/-- The sum of what is held and what came in. -/
def addPay (s : Fin 3) (a b : Vec F (Sh s) .bf16) : FVec F (Sh s) .bf16 := addf (shapeCast (Sh s) a (sc_Sh s)) b
/-- The last sum, with the activation applied. -/
def geluPay (a b : Vec F S192x256 .bf16) : FVec F S192x256 .bf16 := k0_pay44 a b

/-! ## The passages -/

/-- A loop over `n` values. -/
def loop : (n : ℕ) → (Fin n → Pr F) → Pr F
  | 0, _ => pure ⟨⟩
  | n + 1, f => do f 0; loop n fun i => f i.succ

/-- One half of chunk `k`'s product, computed from rows `r` of the left operand and stored at `o`. -/
def dotHalf (k : Fin 6) (r : Fin 2 → ℕ) (hr : ∀ a, r a + S768x768.size a ≤ S1536x768.size a)
    (o : Fin 2 → ℕ) (ho : ∀ a, o a + (Sh 0).size a ≤ S1536x1536.size a)
    (hp : (Rect.unit (s := S1536x1536) o (Sh 0).size ho).PackedRows (EltTy.packing .bf16)) : Pr F := do
  let va : Vec F S768x768 .bf16 ← Prog.lift (.load a2M (Rect.unit (s := S1536x768) r S768x768.size hr).toLoadRect
    (View.loadsAt_vmem h_S768x768))
  let vb : Vec F S768x256 .bf16 ← Prog.lift (.load b2M (Rect.unit (s := S768x1536) ![0, col k] S768x256.size
    (col_inb k)).toLoadRect (View.loadsAt_vmem h_S768x256))
  let _ : Vec F (Sh 0) .bf16 ← Prog.lift (.load outM (Rect.unit (s := S1536x1536) o (Sh 0).size ho).toLoadRect
    (View.loadsAt_vmem (h_Sh 0)))
  Prog.lift (.store outM (Rect.unit (s := S1536x1536) o (Sh 0).size ho) (dotPay va vb) Finset.univ
    (View.stores_vmem (h_Sh 0) ((Memref.isWhole_whole _).storeExact_slice rfl _ hp) (fun _ => rfl)) (.inl rfl))

/-- Chunk `k` of the right operand copied to the scratch. -/
def copyB (k : Fin 6) : Pr F := do
  let v : Vec F S768x256 .bf16 ← Prog.lift (.load bM (Rect.unit (s := S768x1536) ![0, col k] S768x256.size
    (col_inb k)).toLoadRect (View.loadsAt_vmem h_S768x256))
  let _ : Vec F S768x256 .bf16 ← Prog.lift (.load b2M (Rect.unit (s := S768x1536) ![0, col k] S768x256.size
    (col_inb k)).toLoadRect (View.loadsAt_vmem h_S768x256))
  Prog.lift (.store b2M (Rect.unit (s := S768x1536) ![0, col k] S768x256.size (col_inb k)) (copyPay v) Finset.univ
    (View.stores_vmem h_S768x256 ((Memref.isWhole_whole _).storeExact_slice rfl _ (col_pk k)) (fun _ => rfl)) (.inl rfl))

/-- The block of the result the reduce-scatter copy `(s, k)` reads. -/
abbrev srcM (s : Fin 3) (k : Fin 6) (c : Dev nD) : Memref sig .tc .vmem (Sh s) .bf16 :=
  outM.slice (Rect.unit (s := S1536x1536) (srcOff s k c) (Sh s).size (srcOff_inb s k c)) (fun _ => rfl)
/-- The block of the receive buffer it writes. -/
abbrev dstM (s : Fin 3) (k : Fin 6) : Memref sig .tc .vmem (Sh s) .bf16 :=
  rsM.slice (Rect.unit (s := S1344x1536) ![RB s, col k] (Sh s).size (dst_inb s k)) (fun _ => rfl)
/-- The block of the result the all-gather copy `(s, k)` reads, and writes at the other end. -/
abbrev agM (s : Fin 3) (k : Fin 6) (c : Dev nD) : Memref sig .tc .vmem (Sh s.rev) .bf16 :=
  outM.slice (Rect.unit (s := S1536x1536) (agOff s k c) (Sh s.rev).size (agOff_inb s k c)) (fun _ => rfl)

/-- The reduce-scatter copy of step `s`, chunk `k`. -/
def rsSend (s : Fin 3) (k : Fin 6) (c : Dev nD) : Pr F :=
  Prog.lift (.enqueueDma (srcM s k c) (.remote (Dev.tc (⟨devNo false s k c, devNo_lt _ _ _ _⟩ : Dev nD)) (dstM s k)
    (.dma (sSemE (rsIx s k)))) (.dma (rSemE (rsIx s k)))
    ((Memref.isWhole_whole _).wordExact_slice rfl _ (srcOff_ww s k c))
    ((Memref.isWhole_whole _).wordExact_slice rfl _ (dst_ww s k)) ⟨⟨rfl, Or.inl rfl⟩, trivial⟩)
/-- Waiting for the reduce-scatter copy of step `s`, chunk `k` to arrive. -/
def rsWait (s : Fin 3) (k : Fin 6) (c : Dev nD) : Pr F :=
  Prog.lift (.waitDma2 (rSemE (rsIx s k)) (srcM s k c) (dstM s k)
    ((Memref.isWhole_whole _).wordExact_slice rfl _ (srcOff_ww s k c))
    ((Memref.isWhole_whole _).wordExact_slice rfl _ (dst_ww s k)))
/-- Waiting for the reduce-scatter copy of step `s`, chunk `k` to have left. -/
def rsDone (s : Fin 3) (k : Fin 6) (c : Dev nD) : Pr F :=
  Prog.lift (.waitDma2 (sSemE (rsIx s k)) (dstM s k) (srcM s k c)
    ((Memref.isWhole_whole _).wordExact_slice rfl _ (dst_ww s k))
    ((Memref.isWhole_whole _).wordExact_slice rfl _ (srcOff_ww s k c)))
/-- The all-gather copy of step `s`, chunk `k`. -/
def agSend (s : Fin 3) (k : Fin 6) (c : Dev nD) : Pr F :=
  Prog.lift (.enqueueDma (agM s k c) (.remote (Dev.tc (⟨devNo true s k c, devNo_lt _ _ _ _⟩ : Dev nD)) (agM s k c)
    (.dma (sSemE (agIx s k)))) (.dma (rSemE (agIx s k)))
    ((Memref.isWhole_whole _).wordExact_slice rfl _ (agOff_ww s k c))
    ((Memref.isWhole_whole _).wordExact_slice rfl _ (agOff_ww s k c)) ⟨⟨rfl, Or.inl rfl⟩, trivial⟩)
/-- Waiting for the all-gather copy of step `s`, chunk `k` to arrive. -/
def agWait (s : Fin 3) (k : Fin 6) (c : Dev nD) : Pr F :=
  Prog.lift (.waitDma2 (rSemE (agIx s k)) (agM s k c) (agM s k c)
    ((Memref.isWhole_whole _).wordExact_slice rfl _ (agOff_ww s k c))
    ((Memref.isWhole_whole _).wordExact_slice rfl _ (agOff_ww s k c)))
/-- Waiting for the all-gather copy of step `s`, chunk `k` to have left. -/
def agDone (s : Fin 3) (k : Fin 6) (c : Dev nD) : Pr F :=
  Prog.lift (.waitDma2 (sSemE (agIx s k)) (agM s k c) (agM s k c)
    ((Memref.isWhole_whole _).wordExact_slice rfl _ (agOff_ww s k c))
    ((Memref.isWhole_whole _).wordExact_slice rfl _ (agOff_ww s k c)))

/-- A block of the result at `o` increased by the block of the receive buffer at `r`. -/
def addHalf (s : Fin 3) (o : Fin 2 → ℕ) (ho : ∀ a, o a + (Sh s).size a ≤ S1536x1536.size a)
    (hp : (Rect.unit (s := S1536x1536) o (Sh s).size ho).PackedRows (EltTy.packing .bf16))
    (r : Fin 2 → ℕ) (hr : ∀ a, r a + (Sh s).size a ≤ S1344x1536.size a)
    (pay : Vec F (Sh s) .bf16 → Vec F (Sh s) .bf16 → FVec F (Sh s) .bf16) : Pr F := do
  let v : Vec F (Sh s) .bf16 ← Prog.lift (.load outM (Rect.unit (s := S1536x1536) o (Sh s).size ho).toLoadRect
    (View.loadsAt_vmem (h_Sh s)))
  let w : Vec F (Sh s) .bf16 ← Prog.lift (.load rsM (Rect.unit (s := S1344x1536) r (Sh s).size hr).toLoadRect
    (View.loadsAt_vmem (h_Sh s)))
  let _ : Vec F (Sh s) .bf16 ← Prog.lift (.load outM (Rect.unit (s := S1536x1536) o (Sh s).size ho).toLoadRect
    (View.loadsAt_vmem (h_Sh s)))
  Prog.lift (.store outM (Rect.unit (s := S1536x1536) o (Sh s).size ho) (pay v w) Finset.univ
    (View.stores_vmem (h_Sh s) ((Memref.isWhole_whole _).storeExact_slice rfl _ hp) (fun _ => rfl)) (.inl rfl))

/-! ## The body -/

/-- The runtime's barrier semaphore. -/
abbrev barSem : Sem sig := (SemArray.scalar (sig.barrier 5 rfl) : Sems sig S_).sem

/-- The handshake with the three partners. -/
def handshake (c : Dev nD) : Pr F := do
  semSignalWord (⟨k0_dev1 c, k0_dev1_lt c⟩ : Dev nD) barSem 1#32
  semSignalWord (⟨k0_dev2 c, k0_dev2_lt c⟩ : Dev nD) barSem 1#32
  semSignalWord (⟨k0_dev3 c, k0_dev3_lt c⟩ : Dev nD) barSem 1#32
  semWaitWord barSem 3#32

/-- The left operand copied to the scratch. -/
def copyA : Pr F := do
  let v : Vec F S1536x768 .bf16 ← Prog.lift (.load aM (Rect.unit (s := S1536x768) ![0, 0] S1536x768.size
    inb_S1536x768_S1536x768_0_0).toLoadRect (View.loadsAt_vmem h_S1536x768))
  let _ : Vec F S1536x768 .bf16 ← Prog.lift (.load a2M (Rect.unit (s := S1536x768) ![0, 0] S1536x768.size
    inb_S1536x768_S1536x768_0_0).toLoadRect (View.loadsAt_vmem h_S1536x768))
  Prog.lift (.store a2M (Rect.unit (s := S1536x768) ![0, 0] S1536x768.size inb_S1536x768_S1536x768_0_0) (k0_pay1 v)
    Finset.univ (View.stores_vmem h_S1536x768
      ((Memref.isWhole_whole _).storeExact_slice rfl _ packedbf16_S1536x768_S1536x768_0_0) (fun _ => rfl)) (.inl rfl))

/-- Chunk `k`: the copy of the right operand, the half sent on, the first copy, the half that stays. -/
def chunk0 (c : Dev nD) (k : Fin 6) : Pr F := do
  copyB k
  dotHalf k (rowSend k c) (rowSend_inb k c) (stSend k c) (stSend_inb k c) (stSend_pk k c)
  rsSend 0 k c
  dotHalf k (rowKeep k c) (rowKeep_inb k c) (stKeep k c) (stKeep_inb k c) (stKeep_pk k c)

/-- Chunk `k` after the arrival of step `e`: the half sent on is summed and sent, then the half that stays. -/
def chunk1 (c : Dev nD) (e : Fin 2) (k : Fin 6) : Pr F := do
  rsWait e.castSucc k c
  addHalf e.succ (addOff e k c) (addOff_inb e k c) (addOff_pk e k c) (addRecv e k c) (addRecv_inb e k c) (addPay e.succ)
  rsSend e.succ k c
  addHalf e.succ (keepOff e k c) (keepOff_inb e k c) (keepOff_pk e k c) (keepRecv e k c) (keepRecv_inb e k c)
    (addPay e.succ)

/-- Chunk `k` after the last arrival: the last sum with the activation, and the first copy back. -/
def chunk2 (c : Dev nD) (k : Fin 6) : Pr F := do
  rsWait 2 k c
  addHalf 2 (keepOff 1 k c) (keepOff_inb 1 k c) (keepOff_pk 1 k c) ![RB 2, col k] (dst_inb 2 k) geluPay
  agSend 0 k c

/-- Chunk `k` after arrival `e` of the all-gather: the next copy. -/
def chunk3 (c : Dev nD) (e : Fin 2) (k : Fin 6) : Pr F := do
  agWait e.castSucc k c
  agSend e.succ k c

/-- The body after the handshake. -/
def prog (c : Dev nD) : Pr F := do
  handshake c
  copyA
  loop 6 (chunk0 c)
  loop 6 (chunk1 c 0)
  loop 6 (chunk1 c 1)
  loop 6 (chunk2 c)
  loop 6 (chunk3 c 0)
  loop 6 (chunk3 c 1)
  loop 6 (fun k => agWait 2 k c)
  loop 3 (fun s => loop 6 fun k => rsDone s k c)
  loop 3 (fun s => loop 6 fun k => agDone s k c)

set_option maxRecDepth 100000 in
/-- The printed body is `prog` at the device it reads. -/
theorem body_eq : cc0_body (F := F) aM (Memref.isWhole_whole _) bM (Memref.isWhole_whole _) outM
    (Memref.isWhole_whole _) a2M (Memref.isWhole_whole _) b2M (Memref.isWhole_whole _) rsM (Memref.isWhole_whole _)
    cc0_scratch3 cc0_scratch4 = (Prog.lift .deviceId >>= fun c : Dev nD => prog c) := rfl

end Cert.KProof
-- ==== Proof.Geometry.lean ====
/-
The regions of the exchange: which elements of the result and of the receive buffer each copy and each sum touches.
-/
module

public import proofs.«01_k».proof.Proof.Mirror

@[expose] public section

noncomputable section

namespace Cert.KProof

open Cert.KernelIdeal Cert.KernelIdeal.Gen
open Idealize.ShloMosaic Idealize.SL.Sem

/-! ## Rectangles -/

/-- Rows `r … r + n`, columns `w … w + v` of a matrix. -/
def rct {H W : ℕ} (r n w v : ℕ) : Finset (⟨2, ![H, W]⟩ : Shape).Idx :=
  Finset.univ.filter fun i => (r ≤ (i 0).val ∧ (i 0).val < r + n) ∧ (w ≤ (i 1).val ∧ (i 1).val < w + v)

theorem mem_rct {H W r n w v : ℕ} {i : (⟨2, ![H, W]⟩ : Shape).Idx} :
    i ∈ rct r n w v ↔ (r ≤ (i 0).val ∧ (i 0).val < r + n) ∧ (w ≤ (i 1).val ∧ (i 1).val < w + v) := by
  simp [rct]

/-- A unit-stride rectangle is the set of its rows and columns. -/
theorem unit_set {H W r n w v : ℕ} {o : Fin 2 → ℕ} (ho : o = ![r, w])
    (inb : ∀ a, o a + (![n, v] : Fin 2 → ℕ) a ≤ (⟨2, ![H, W]⟩ : Shape).size a) :
    (Rect.unit (s := ⟨2, ![H, W]⟩) o ![n, v] inb).set = rct r n w v := by
  subst ho
  ext i
  rw [Rect.mem_set_unit, mem_rct]
  exact ⟨fun h => ⟨h 0, h 1⟩, fun h a => by fin_cases a; exacts [h.1, h.2]⟩

/-- An element of a unit-stride rectangle lies where its offset says: row. -/
theorem unit_emb0 {H W n v : ℕ} {o : Fin 2 → ℕ}
    (inb : ∀ a, o a + (![n, v] : Fin 2 → ℕ) a ≤ (⟨2, ![H, W]⟩ : Shape).size a) (y) :
    ((Rect.unit (s := ⟨2, ![H, W]⟩) o ![n, v] inb).emb y 0).val = o 0 + (y 0).val := by
  show o 0 + 1 * (y 0).val = _; omega
/-- An element of a unit-stride rectangle lies where its offset says: column. -/
theorem unit_emb1 {H W n v : ℕ} {o : Fin 2 → ℕ}
    (inb : ∀ a, o a + (![n, v] : Fin 2 → ℕ) a ≤ (⟨2, ![H, W]⟩ : Shape).size a) (y) :
    ((Rect.unit (s := ⟨2, ![H, W]⟩) o ![n, v] inb).emb y 1).val = o 1 + (y 1).val := by
  show o 1 + 1 * (y 1).val = _; omega

/-! ## The regions of the result -/

/-- Rows of the part of a chunk that is still worked on after `i` steps. -/
def HT : ℕ → ℕ
  | 0 => 1536
  | 1 => 768
  | 2 => 384
  | _ => 192

/-- The part of chunk `k` that device `c` works on after `i` steps. -/
def R (c : Dev nD) (k : Fin 6) (i : ℕ) : Finset S1536x1536.Idx := rct (base c k i) (HT i) (col k) 256
/-- The part of chunk `k` that device `c` sends at step `s`. -/
def Sd (c : Dev nD) (k : Fin 6) (s : Fin 3) : Finset S1536x1536.Idx := rct (sbase c k s) (SZ s) (col k) 256
/-- The part of the receive buffer that step `s` of chunk `k` lands in. -/
def slot (s : Fin 3) (k : Fin 6) : Finset S1344x1536.Idx := rct (RB s) (SZ s) (col k) 256

theorem HT_succ (s : Fin 3) : HT (s.val + 1) = SZ s := by revert s; decide
theorem HT_eq (s : Fin 3) : HT s.val = 2 * SZ s := by revert s; decide

/-- A step halves the part: one half is kept, the other is sent. -/
theorem halves (c : Dev nD) (k : Fin 6) (s : Fin 3) :
    (base c k (s.val + 1) = base c k s.val ∧ sbase c k s = base c k s.val + SZ s) ∨
      (sbase c k s = base c k s.val ∧ base c k (s.val + 1) = base c k s.val + SZ s) := by
  revert c k s; decide +kernel

theorem Sd_eq (c : Dev nD) (k : Fin 6) (s : Fin 3) : Sd c k s = R (par c k s) k (s.val + 1) := by
  unfold Sd R sbase; rw [HT_succ]

/-- What the partner sends is the part that is kept here. -/
theorem Sd_par (c : Dev nD) (k : Fin 6) (s : Fin 3) : Sd (par c k s) k s = R c k (s.val + 1) := by
  rw [Sd_eq, par_par]

theorem R_disj (c : Dev nD) (k : Fin 6) (s : Fin 3) : Disjoint (R c k (s.val + 1)) (Sd c k s) := by
  rw [Finset.disjoint_left]
  intro i h h'
  unfold R at h; unfold Sd at h'; rw [HT_succ] at h
  rw [mem_rct] at h h'
  rcases halves c k s with ⟨e, e'⟩ | ⟨e, e'⟩ <;> omega

theorem R_split (c : Dev nD) (k : Fin 6) (s : Fin 3) : R c k s.val = R c k (s.val + 1) ∪ Sd c k s := by
  ext i
  rw [Finset.mem_union]
  unfold R Sd; rw [HT_succ, HT_eq]
  rw [mem_rct, mem_rct, mem_rct]
  rcases halves c k s with ⟨e, e'⟩ | ⟨e, e'⟩ <;> rw [e, e'] <;> omega

/-- After the same steps, partners for a later step work on the same part. -/
theorem base_par (c : Dev nD) (k : Fin 6) (s : Fin 3) : base (par c k s) k s.val = base c k s.val := by
  revert c k s; decide +kernel

theorem R_par (c : Dev nD) (k : Fin 6) (s : Fin 3) : R (par c k s) k s.val = R c k s.val := by
  unfold R; rw [base_par]

/-- Columns of an element of a part. -/
theorem col_of_R {c : Dev nD} {k : Fin 6} {i : ℕ} {x : S1536x1536.Idx} (h : x ∈ R c k i) : (x 1).val / 256 = k.val := by
  have := (mem_rct.mp h).2; unfold col at this; omega

theorem base_le (c : Dev nD) (k : Fin 6) (s : Fin 3) : base c k (s.val + 1) + SZ s ≤ 1536 := by
  revert c k s; decide +kernel

/-! ## The six chunks -/

/-- Chunk `k` of the result. -/
def Ck (k : Fin 6) : Finset S1536x1536.Idx := rct 0 1536 (col k) 256

theorem R_zero (c : Dev nD) (k : Fin 6) : R c k 0 = Ck k := rfl

theorem Ck_disj (k k' : Fin 6) (h : k ≠ k') : Disjoint (Ck k) (Ck k') := by
  rw [Finset.disjoint_left]
  intro i hi hi'
  have h1 := (mem_rct.mp hi).2
  have h2 := (mem_rct.mp hi').2
  unfold col at h1 h2
  exact h (Fin.ext (by omega))

theorem Ck_cover : Finset.univ.biUnion Ck = (Finset.univ : Finset S1536x1536.Idx) := by
  ext i
  simp only [Finset.mem_biUnion, Finset.mem_univ, true_and, iff_true]
  have h0 : (i 0).val < 1536 := (i 0).isLt
  have h1 : (i 1).val < 1536 := (i 1).isLt
  refine ⟨⟨(i 1).val / 256, by omega⟩, mem_rct.mpr ⟨by omega, ?_⟩⟩
  show 256 * ((i 1).val / 256) ≤ _ ∧ _ < 256 * ((i 1).val / 256) + 256
  omega

/-- The parts of the receive buffer, by step and chunk, are disjoint. -/
theorem slot_disj (x y : Fin 3 × Fin 6) (h : x ≠ y) : Disjoint (slot x.1 x.2) (slot y.1 y.2) := by
  rw [Finset.disjoint_left]
  intro i hi hi'
  have hi := mem_rct.mp hi
  have hi' := mem_rct.mp hi'
  have h3 : ∀ s s' : Fin 3, s ≠ s' → RB s + SZ s ≤ RB s' ∨ RB s' + SZ s' ≤ RB s := by decide
  unfold col at hi hi'
  rcases eq_or_ne x.1 y.1 with e | e
  · exact h (Prod.ext e (Fin.ext (by omega)))
  · have := h3 _ _ e; omega

/-- Together they are the whole buffer. -/
theorem slot_cover : Finset.univ.biUnion (fun x : Fin 3 × Fin 6 => slot x.1 x.2) = (Finset.univ : Finset S1344x1536.Idx) := by
  ext i
  simp only [Finset.mem_biUnion, Finset.mem_univ, true_and, iff_true]
  have h0 : (i 0).val < 1344 := (i 0).isLt
  have h1 : (i 1).val < 1536 := (i 1).isLt
  refine ⟨(⟨if (i 0).val < 768 then 0 else if (i 0).val < 1152 then 1 else 2, by split_ifs <;> omega⟩,
    ⟨(i 1).val / 256, by omega⟩), mem_rct.mpr ⟨?_, ?_⟩⟩
  · split_ifs with a b
    · show 0 ≤ _ ∧ _ < 0 + 768; omega
    · show 768 ≤ _ ∧ _ < 768 + 384; omega
    · show 1152 ≤ _ ∧ _ < 1152 + 192; omega
  · show 256 * ((i 1).val / 256) ≤ _ ∧ _ < 256 * ((i 1).val / 256) + 256
    omega

/-! ## What the program's views cover -/

theorem srcM_set (s k c) : (srcM s k c).view.set = Sd c k s :=
  (View.set_slice_whole _ _).trans (unit_set (srcOff_eq s k c) _)
theorem dstM_set (s k) : (dstM s k).view.set = slot s k :=
  (View.set_slice_whole _ _).trans (unit_set rfl _)
theorem agM_set (s k c) : (agM s k c).view.set = R c k (3 - s.val) :=
  ((View.set_slice_whole _ _).trans (unit_set (agOff_eq s k c) _)).trans (by
    unfold R; rw [show HT (3 - s.val) = SZ s.rev by revert s; decide])

end Cert.KProof
-- ==== Proof.Content.lean ====
/-
What the buffers hold.

`P0`, `P1`, `P2` are the partial sums a device holds of every element of the result after none, one and two
exchanges, `Gl` the last sum with the activation applied, as the device that finishes the element computes it, and
`Fin` the finished element: what all devices hold in the end. All are defined at every index, from the blocks of
the two operands that the devices hold.
-/
module

public import proofs.«01_k».proof.Proof.Geometry
public import Idealize.ShloMosaic.Lib.ValueIdxCore
public import Idealize.ShloMosaic.Lib.Pipeline.Value

@[expose] public section

noncomputable section

namespace Cert.KProof

open Cert.KernelIdeal Cert.KernelIdeal.Gen
open Idealize.ShloMosaic Idealize.ShloMosaic.ValueIdx Idealize.SL.Sem

variable {F : FTy → Type} [FloatOps F]

/-! ## The payloads at an element -/

/-- The activation of the sum of two numbers, rounded. -/
def gelu1 (a b : F .bf16) : F .bf16 :=
  geluPay (fun _ => a) (fun _ => b) (ix2 (0 : Fin 192) (0 : Fin 256))

/-- The sum of two numbers. -/
def add1 (a b : F .bf16) : F .bf16 :=
  addPay (F := F) 2 (fun _ => a) (fun _ => b) (ix2 (0 : Fin 192) (0 : Fin 256))

theorem addPay_apply (s : Fin 3) (a b : Vec F (Sh s) .bf16) (y) : addPay s a b y = add1 (a y) (b y) := by
  unfold add1 addPay; rw [shapeCast_self, shapeCast_self]; rfl

theorem geluPay_apply (a b : Vec F S192x256 .bf16) (y) : geluPay a b y = gelu1 (a y) (b y) := by
  unfold gelu1 geluPay k0_pay44; simp only [shapeCast_self]; rfl

theorem copyPay_eq (v : Vec F S768x256 .bf16) : copyPay v = v := by
  unfold copyPay; simp only [shapeCast_self]

theorem pay1_eq (v : Vec F S1536x768 .bf16) : k0_pay1 v = v := by
  unfold k0_pay1; simp only [shapeCast_self]

/-! ## The partial sums -/

/-- One half of the rows of the left operand. -/
def rowsOf (a : S1536x768.Idx → F .bf16) (h : ℕ) : Vec F S768x768 .bf16 :=
  fun y => a (ix2 ⟨(768 * h + (y 0).val) % 1536, Nat.mod_lt _ (by decide)⟩ (y 1))

/-- One chunk of columns of the right operand. -/
def colsOf (b : S768x1536.Idx → F .bf16) (k : ℕ) : Vec F S768x256 .bf16 :=
  fun y => b (ix2 (y 0) ⟨(256 * k + (y 1).val) % 1536, Nat.mod_lt _ (by decide)⟩)

/-- Element `i` of the product of the operands' blocks `a` and `b`, rounded. -/
def prod1 (a : S1536x768.Idx → F .bf16) (b : S768x1536.Idx → F .bf16) (i : S1536x1536.Idx) : F .bf16 :=
  dotPay (rowsOf a ((i 0).val / 768)) (colsOf b ((i 1).val / 256))
    (ix2 ⟨(i 0).val % 768, Nat.mod_lt _ (by decide)⟩ ⟨(i 1).val % 256, Nat.mod_lt _ (by decide)⟩)

section
variable (A : Dev nD → S1536x768.Idx → F .bf16) (B : Dev nD → S768x1536.Idx → F .bf16)

/-- The chunk an element lies in. -/
def chk (i : S1536x1536.Idx) : Fin 6 := ⟨(i 1).val / 256, by have : (i 1).val < 1536 := (i 1).isLt; omega⟩

/-- Partial sums after no exchange. -/
def P0 (p : Dev nD) (i : S1536x1536.Idx) : F .bf16 := prod1 (A p) (B p) i
/-- Partial sums after one exchange. -/
def P1 (p : Dev nD) (i : S1536x1536.Idx) : F .bf16 := add1 (P0 A B p i) (P0 A B (par p (chk i) 0) i)
/-- Partial sums after two exchanges. -/
def P2 (p : Dev nD) (i : S1536x1536.Idx) : F .bf16 := add1 (P1 A B p i) (P1 A B (par p (chk i) 1) i)
/-- Partial sums after `s` exchanges. -/
def PS : Fin 3 → Dev nD → S1536x1536.Idx → F .bf16
  | 0 => P0 A B
  | 1 => P1 A B
  | 2 => P2 A B
/-- The finished element, as device `p` computes it. -/
def Gl (p : Dev nD) (i : S1536x1536.Idx) : F .bf16 := gelu1 (P2 A B p i) (P2 A B (par p (chk i) 2) i)

/-- The device that finishes the block `b` of 192 rows of chunk `k`. -/
def own (k : Fin 6) (b : ℕ) : Dev nD :=
  (List.finRange 8).find? (fun c => base c k 3 = 192 * b) |>.getD 0

theorem own_base (c : Dev nD) (k : Fin 6) : own k (base c k 3 / 192) = c := by
  revert c k; decide +kernel

/-- The finished element. -/
def Gf (i : S1536x1536.Idx) : F .bf16 := Gl A B (own (chk i) ((i 0).val / 192)) i

theorem chk_of_R {c : Dev nD} {k : Fin 6} {n : ℕ} {i : S1536x1536.Idx} (h : i ∈ R c k n) : chk i = k :=
  Fin.ext (col_of_R h)

theorem base3_mod (c : Dev nD) (k : Fin 6) : base c k 3 % 192 = 0 := by revert c k; decide +kernel

theorem own_of_R {c : Dev nD} {k : Fin 6} {i : S1536x1536.Idx} (h : i ∈ R c k 3) : own (chk i) ((i 0).val / 192) = c := by
  rw [chk_of_R h]
  have h1 := (mem_rct.mp h).1
  have h2 := base3_mod c k
  have : (i 0).val / 192 = base c k 3 / 192 := by
    have : HT 3 = 192 := rfl
    omega
  rw [this, own_base]

theorem Gf_of_R {c : Dev nD} {k : Fin 6} {i : S1536x1536.Idx} (h : i ∈ R c k 3) : Gf A B i = Gl A B c i := by
  unfold Gf; rw [own_of_R h]

theorem PS_succ (e : Fin 2) (p : Dev nD) (i : S1536x1536.Idx) :
    PS A B e.succ p i = add1 (PS A B e.castSucc p i) (PS A B e.castSucc (par p (chk i) e.castSucc) i) := by
  fin_cases e <;> rfl

/-- What lands in device `c`'s receive buffer at step `s` of chunk `k`: its partner's partial sums of the part kept. -/
def Rv (c : Dev nD) (s : Fin 3) (k : Fin 6) (i : S1344x1536.Idx) : F .bf16 :=
  PS A B s (par c k s) (ix2 ⟨((i 0).val - RB s + base c k (s.val + 1)) % 1536, Nat.mod_lt _ (by decide)⟩ (i 1))

end

end Cert.KProof
-- ==== Proof.Sched.lean ====
/-
The protocol: the semaphore cells, what each payment to a cell hands over, what every device owes, the levels.

A device has one barrier cell, 36 departure cells and 36 arrival cells. Copies are numbered by step `t` (0, 1, 2:
reduce-scatter; 3, 4, 5: all-gather, which goes through the partners in the opposite order) and chunk `k`.
-/
module

public import proofs.«01_k».proof.Proof.Content
public import proofs.«01_k».proof.Proof.Gen.KernelIdeal.Launch
public import proofs.«01_k».proof.Proof.Gen.KernelIdeal.Frame
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- The step of the reduce-scatter whose partner and block the copies of step `t` use. -/
def sOf : Fin 6 → Fin 3
  | 0 => 0
  | 1 => 1
  | 2 => 2
  | 3 => 2
  | 4 => 1
  | 5 => 0

/-- Step `s` of the reduce-scatter, among the six steps. -/
abbrev tR (s : Fin 3) : Fin 6 := ⟨s.val, by omega⟩
/-- Step `s` of the all-gather, among the six steps. -/
abbrev tA (s : Fin 3) : Fin 6 := ⟨3 + s.val, by omega⟩

theorem sOf_tR (s) : sOf (tR s) = s := by revert s; decide
theorem sOf_tA (s) : sOf (tA s) = s.rev := by revert s; decide

/-- Number of the copy of step `t`, chunk `k`. -/
abbrev cix (t k : Fin 6) : Fin 36 := ⟨6 * t.val + k.val, by omega⟩

theorem cix_tR (s k) : rsIx s k = cix (tR s) k := rfl
theorem cix_tA (s k) : agIx s k = cix (tA s) k := Fin.ext (by show 18 + 6 * s.val + k.val = 6 * (3 + s.val) + k.val; omega)

/-- Where device `c` sends the copy of step `t`, chunk `k`; the copy it receives comes from there too. -/
def dst (c : Dev nD) (t k : Fin 6) : Dev nD := par c k (sOf t)
theorem dst_dst (c t k) : dst (dst c t k) t k = c := par_par _ _ _

abbrev barCell (c : Dev nD) : GSem nD τ sig := ((c : Thread nD τ), .reg barSem)
abbrev sCell (c : Dev nD) (t k : Fin 6) : GSem nD τ sig := ((c : Thread nD τ), .dma (sSemE (cix t k)))
abbrev rCell (c : Dev nD) (t k : Fin 6) : GSem nD τ sig := ((c : Thread nD τ), .dma (rSemE (cix t k)))

theorem sSem_val : ∀ j, (sSemE j).val = 3 + j.val := by decide +kernel
theorem rSem_val : ∀ j, (rSemE j).val = 39 + j.val := by decide +kernel

/-- The credit of a block of `SZ s` rows. -/
abbrev amt (s : Fin 3) : ℕ := (dstM s 0).view.dmaCredit
theorem amt_pos (s : Fin 3) : 0 < amt s := View.dmaCredit_pos _ (h_Sh s)

/-! ## Points-tos -/

/-- Device `c`'s result buffer at the elements `X`. -/
def outPt (c : Dev nD) (X : Finset S1536x1536.Idx) (q : PosShare TreeShare) (g : S1536x1536.Idx → F .bf16) : sProp 𝕄 :=
  (outM : Memref sig .tc .vmem S1536x1536 .bf16).view.loc (c : Thread nD τ) ↦[X]{q} g
/-- Device `c`'s receive buffer at the elements `X`. -/
def rsPt (c : Dev nD) (X : Finset S1344x1536.Idx) (q : PosShare TreeShare) (g : S1344x1536.Idx → F .bf16) : sProp 𝕄 :=
  (rsM : Memref sig .tc .vmem S1344x1536 .bf16).view.loc (c : Thread nD τ) ↦[X]{q} g

omit [FloatOps F] in
instance outPt_storable (c X q g) : BI.Storable (upEmb : UEmb _ 𝕄) (outPt (F := F) c X q g) := by unfold outPt; infer_instance
omit [FloatOps F] in
instance rsPt_storable (c X q g) : BI.Storable (upEmb : UEmb _ 𝕄) (rsPt (F := F) c X q g) := by unfold rsPt; infer_instance

/-- The same with contents not said. -/
def outAny (c : Dev nD) (X : Finset S1536x1536.Idx) : sProp 𝕄 := iprop(∃ g, outPt (F := F) c X fullShare g)
/-- The same with contents not said. -/
def rsAny (c : Dev nD) (X : Finset S1344x1536.Idx) : sProp 𝕄 := iprop(∃ g, rsPt (F := F) c X fullShare g)

omit [FloatOps F] in
instance outAny_storable (c X) : BI.Storable (upEmb : UEmb _ 𝕄) (outAny (F := F) c X) := by unfold outAny; infer_instance
omit [FloatOps F] in
instance rsAny_storable (c X) : BI.Storable (upEmb : UEmb _ 𝕄) (rsAny (F := F) c X) := by unfold rsAny; infer_instance

/-! ## What payments hand over -/

/-- The step at which chunk `k` exchanges bit `d`. -/
def stp (k : Fin 6) (d : Fin 3) : Fin 3 := ⟨(d.val + 6 - k.val) % 3, Nat.mod_lt _ (by decide)⟩
theorem dim_stp (k d) : dim k (stp k d) = d := by revert k d; decide
theorem stp_dim (k s) : stp k (dim k s) = s := by revert k s; decide

/-- The share of a block that is still held after `n` loans. -/
def held : ℕ → PosShare TreeShare
  | 0 => fullShare
  | n + 1 => (held n).left
/-- The share of the copied block that is lent to the copy of step `t` of the all-gather. -/
def lent (t : Fin 6) : PosShare TreeShare := (held (t.val - 3)).right

section
variable (A : Dev nD → S1536x768.Idx → F .bf16) (B : Dev nD → S768x1536.Idx → F .bf16)

/-- What device `c`'s partner for bit `d` hands it at the handshake: the parts of its receive buffer `c` will write. -/
def barPay (c : Dev nD) (d : Fin 3) : sProp 𝕄 :=
  bigSep Finset.univ fun k : Fin 6 => rsAny (F := F) (peer c d) (slot (stp k d) k)

/-- What device `c` finds at an arrival: in the reduce-scatter its part of the receive buffer with the partner's sums,
    and the partner's block of the result they were read from, to be written back later; in the all-gather its own
    block of the result, finished. -/
def rcvPay (c : Dev nD) (t k : Fin 6) : sProp 𝕄 :=
  if t.val < 3 then
    iprop(rsPt c (slot (sOf t) k) fullShare (Rv A B c (sOf t) k) ∗ outAny (F := F) (dst c t k) (R c k ((sOf t).val + 1)))
  else outPt c (Sd c k (sOf t)) fullShare (Gf A B)

/-- What device `c` gets back at a departure: in the all-gather the share of the block that it lent. -/
def sndPay (c : Dev nD) (t k : Fin 6) : sProp 𝕄 :=
  if t.val < 3 then iprop(emp) else outPt c (R c k ((sOf t).val + 1)) (lent t) (Gf A B)

instance barPay_storable (c d) : BI.Storable (upEmb : UEmb _ 𝕄) (barPay (F := F) c d) := by unfold barPay; infer_instance
instance rcvPay_storable (c t k) : BI.Storable (upEmb : UEmb _ 𝕄) (rcvPay A B c t k) := by
  unfold rcvPay; split <;> infer_instance
instance sndPay_storable (c t k) : BI.Storable (upEmb : UEmb _ 𝕄) (sndPay A B c t k) := by
  unfold sndPay; split <;> infer_instance

/-- Step of copy number `n`. -/
abbrev tOf (n : ℕ) : Fin 6 := ⟨n / 6 % 6, Nat.mod_lt _ (by decide)⟩
/-- Chunk of copy number `n`. -/
abbrev kOf (n : ℕ) : Fin 6 := ⟨n % 6, Nat.mod_lt _ (by decide)⟩

theorem tOf_cix (t k : Fin 6) : tOf (cix t k).val = t := Fin.ext (by show (6 * t.val + k.val) / 6 % 6 = _; omega)
theorem kOf_cix (t k : Fin 6) : kOf (cix t k).val = k := Fin.ext (by show (6 * t.val + k.val) % 6 = _; omega)

/-- The amounts. -/
def amtOf : SemLoc sig → ℕ
  | .reg _ => 1
  | .dma q => if q.val < 39 then amt (sOf (tOf (q.val - 3))) else amt (sOf (tOf (q.val - 39)))

/-- The payloads. -/
def payOf (c : Dev nD) (d : Fin 3) : SemLoc sig → sProp 𝕄
  | .reg _ => barPay (F := F) c d
  | .dma q => if q.val < 3 then iprop(emp) else if q.val < 39 then sndPay A B c (tOf (q.val - 3)) (kOf (q.val - 3))
      else rcvPay A B c (tOf (q.val - 39)) (kOf (q.val - 39))

instance payOf_storable (c d g) : BI.Storable (upEmb : UEmb _ 𝕄) (payOf A B c d g) := by
  unfold payOf; split
  · infer_instance
  · (repeat' split) <;> infer_instance

/-- The duties: a barrier cell has one for each bit, a departure or arrival cell one. -/
def dutyOf : SemLoc sig → Finset (Fin 3)
  | .reg _ => Finset.univ
  | .dma q => if q.val < 3 then ∅ else {0}

/-- One round: every cell is paid once by each of its payers. -/
def Rd : Rounds.Schedule (GSem nD τ sig) (Fin 3) 𝕄 where
  duties g r := if r = 0 ∧ g.1.2 = .tc then dutyOf g.2 else ∅
  unitless _ := False
  amount g _ _ := amtOf g.2
  payload g _ d := payOf A B g.1.1 d g.2
  amount_pos g _ _ _ := by
    rcases g with ⟨_, s | q⟩
    · exact Nat.one_pos
    · dsimp only [amtOf]; split <;> exact amt_pos _

instance Rd_payload_storable (g : GSem nD τ sig) (r : ℕ) (d : Fin 3) :
    BI.Storable (upEmb : UEmb _ 𝕄) ((Rd A B).payload g r d) := payOf_storable A B _ _ _

theorem duties_zero (c : Dev nD) (sm : SemLoc sig) : (Rd A B).duties ((c : Thread nD τ), sm) 0 = dutyOf sm := by
  show (if 0 = 0 ∧ (c : Thread nD τ).2 = .tc then dutyOf sm else ∅) = _
  exact if_pos ⟨rfl, rfl⟩
theorem duties_bar (c) : (Rd A B).duties (barCell c) 0 = Finset.univ := duties_zero A B c _
theorem duties_snd (c t k) : (Rd A B).duties (sCell c t k) 0 = {0} := by
  rw [duties_zero]; exact if_neg (by rw [sSem_val]; omega)
theorem duties_rcv (c t k) : (Rd A B).duties (rCell c t k) 0 = {0} := by
  rw [duties_zero]; exact if_neg (by rw [rSem_val]; omega)
theorem duties_later (g : GSem nD τ sig) : ∀ r, 1 ≤ r → (Rd A B).duties g r = ∅ :=
  fun r hr => if_neg fun h => by omega

theorem amount_snd (c t k d) : (Rd A B).amount (sCell c t k) 0 d = amt (sOf t) := by
  show (if _ then _ else _) = _
  rw [if_pos (by rw [sSem_val]; have := (cix t k).isLt; omega), sSem_val, Nat.add_sub_cancel_left, tOf_cix]
theorem amount_rcv (c t k d) : (Rd A B).amount (rCell c t k) 0 d = amt (sOf t) := by
  show (if _ then _ else _) = _
  rw [if_neg (by rw [rSem_val]; omega), rSem_val, Nat.add_sub_cancel_left, tOf_cix]
theorem amount_bar (c d) : (Rd A B).amount (barCell c) 0 d = 1 := rfl

theorem expect_bar (c) : (Rd A B).expect (barCell c) 0 = 3 := by
  unfold Schedule.expect Schedule.amountOf
  rw [duties_bar, Finset.sum_congr rfl fun d _ => amount_bar A B c d]; rfl
theorem expect_snd (c t k) : (Rd A B).expect (sCell c t k) 0 = amt (sOf t) := by
  unfold Schedule.expect Schedule.amountOf; rw [duties_snd, Finset.sum_singleton, amount_snd]
theorem expect_rcv (c t k) : (Rd A B).expect (rCell c t k) 0 = amt (sOf t) := by
  unfold Schedule.expect Schedule.amountOf; rw [duties_rcv, Finset.sum_singleton, amount_rcv]

theorem payload_bar (c d) : (Rd A B).payload (barCell c) 0 d = barPay c d := rfl
theorem payload_snd (c t k d) : (Rd A B).payload (sCell c t k) 0 d = sndPay A B c t k := by
  show (if _ then _ else if _ then _ else _) = _
  rw [if_neg (by rw [sSem_val]; omega), if_pos (by rw [sSem_val]; have := (cix t k).isLt; omega), sSem_val,
    Nat.add_sub_cancel_left, tOf_cix, kOf_cix]
theorem payload_rcv (c t k d) : (Rd A B).payload (rCell c t k) 0 d = rcvPay A B c t k := by
  show (if _ then _ else if _ then _ else _) = _
  rw [if_neg (by rw [rSem_val]; omega), if_neg (by rw [rSem_val]; omega), rSem_val,
    Nat.add_sub_cancel_left, tOf_cix, kOf_cix]

theorem rest_bar (c) : bigSep ((Rd A B).duties (barCell c) 0 \ ∅) (fun d => (Rd A B).payload (barCell c) 0 d)
    = bigSep Finset.univ fun d => barPay (F := F) c d := by rw [Finset.sdiff_empty, duties_bar]; rfl
theorem rest_snd (c t k) : bigSep ((Rd A B).duties (sCell c t k) 0 \ ∅) (fun d => (Rd A B).payload (sCell c t k) 0 d)
    = sndPay A B c t k := by rw [Finset.sdiff_empty, duties_snd, bigSep_singleton, payload_snd]
theorem rest_rcv (c t k) : bigSep ((Rd A B).duties (rCell c t k) 0 \ ∅) (fun d => (Rd A B).payload (rCell c t k) 0 d)
    = rcvPay A B c t k := by rw [Finset.sdiff_empty, duties_rcv, bigSep_singleton, payload_rcv]

end

/-! ## What is owed, and the levels -/

/-- The credit device `c` owes with the copy number `j`. -/
def due (c : Dev nD) (j : Fin 36) : CellTallies nD τ sig Unit :=
  tallyAt (rCell (dst c (tOf j.val) (kOf j.val)) (tOf j.val) (kOf j.val)) () (amt (sOf (tOf j.val)))

theorem due_cix (c t k) : due c (cix t k) = tallyAt (rCell (dst c t k) t k) () (amt (sOf t)) := by
  unfold due; rw [tOf_cix, kOf_cix]

/-- What device `c` owes with the copies from number `n` on. -/
def Ow (c : Dev nD) (n : ℕ) : CellTallies nD τ sig Unit := ∑ j ∈ Finset.univ.filter fun j : Fin 36 => n ≤ j.val, due c j

theorem Ow_peel (c : Dev nD) (t k : Fin 6) : Ow c (cix t k).val = Ow c ((cix t k).val + 1) + tallyAt (rCell (dst c t k) t k) () (amt (sOf t)) := by
  unfold Ow
  rw [show (Finset.univ.filter fun j : Fin 36 => (cix t k).val ≤ j.val)
      = insert (cix t k) (Finset.univ.filter fun j : Fin 36 => (cix t k).val + 1 ≤ j.val) by
    ext j; simp only [Finset.mem_insert, Finset.mem_filter, Finset.mem_univ, true_and, Fin.ext_iff]; omega,
    Finset.sum_insert (by simp), due_cix, add_comm]

theorem Ow_end (c : Dev nD) (n : ℕ) (h : 36 ≤ n) : Ow c n = 0 := by
  unfold Ow; rw [Finset.filter_eq_empty_iff.mpr (fun j _ => by have := j.isLt; omega), Finset.sum_empty]

/-- The credit of device `c`'s signals of the handshake, to the partners from bit `d` on. -/
def O₁ (c : Dev nD) : CellTallies nD τ sig Unit := Ow c 0 + tallyAt (barCell (peer c 2)) () 1
def O₂ (c : Dev nD) : CellTallies nD τ sig Unit := O₁ c + tallyAt (barCell (peer c 1)) () 1
/-- What device `c` owes at launch. -/
def O₀ (c : Dev nD) : CellTallies nD τ sig Unit := O₂ c + tallyAt (barCell (peer c 0)) () 1

def L (g : GSem nD τ sig) : Finset Unit := if g.1.2 = .tc then {()} else ∅
/-- The level of a semaphore: barrier 1, arrivals in the order of their copies, everything else 0. -/
def lvOf : SemLoc sig → ℕ
  | .reg _ => 1
  | .dma q => if q.val < 39 then 0 else q.val - 37
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

theorem lv_rcv (c t k u) : lv (rCell c t k) u = (cix t k).val + 2 := by
  show (if _ then _ else _) = _
  rw [if_neg (by rw [rSem_val]; omega), rSem_val]; omega

theorem Ow_pos {c : Dev nD} {n : ℕ} {g : GSem nD τ sig} {u : Unit} (h : 0 < Ow c n g u) :
    g.1.2 = .tc ∧ n + 2 ≤ lv g u := by
  unfold Ow at h
  rw [Finset.sum_apply, Finsupp.finset_sum_apply] at h
  obtain ⟨j, hj, hp⟩ := Finset.exists_ne_zero_of_sum_ne_zero (Nat.pos_iff_ne_zero.mp h)
  unfold due at hp
  rw [tallyAt_apply] at hp
  split at hp
  · rename_i he
    rw [he.1]
    refine ⟨rfl, ?_⟩
    rw [lv_rcv]
    have := (Finset.mem_filter.mp hj).2
    have hlt := j.isLt
    show n + 2 ≤ 6 * (j.val / 6 % 6) + j.val % 6 + 2
    omega
  · exact absurd rfl hp

theorem bar_pos {c : Dev nD} {g : GSem nD τ sig} {u : Unit} (h : 0 < tallyAt (Ix := Unit) (barCell c) () 1 g u) :
    g.1.2 = .tc ∧ 1 ≤ lv g u := by
  rw [tallyAt_apply] at h
  split at h
  · rename_i he; rw [he.1]; exact ⟨rfl, le_refl 1⟩
  · exact absurd h (Nat.lt_irrefl 0)

theorem add_pos_or {O O' : CellTallies nD τ sig Unit} {g : GSem nD τ sig} {u : Unit} (h : 0 < (O + O') g u) :
    0 < O g u ∨ 0 < O' g u := by
  rw [Pi.add_apply, Finsupp.add_apply] at h; omega

theorem O₀_pos {c : Dev nD} {g : GSem nD τ sig} {u : Unit} (h : 0 < O₀ c g u) : g.1.2 = .tc ∧ 1 ≤ lv g u := by
  unfold O₀ O₂ O₁ at h
  rcases add_pos_or h with h | h
  · rcases add_pos_or h with h | h
    · rcases add_pos_or h with h | h
      · have := Ow_pos h; exact ⟨this.1, by omega⟩
      · exact bar_pos h
    · exact bar_pos h
  · exact bar_pos h

omit [FloatOps F] in
/-- A wait is allowed below everything that is owed. -/
theorem mayWait_lt (c : Dev nD) (sm : SemLoc sig) (O : CellTallies nD τ sig Unit)
    (h : ∀ g u, 0 < O g u → g.1.2 = .tc ∧ lvOf sm < lv g u) :
    (levAts L lv : sProp 𝕄) ⊢ MayWait (c : Thread nD τ) sm () O :=
  MayOwe.of_cut (L := L) (lev := lv) (lvOf sm)
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact le_refl _)
    (fun g u hg => (h g u hg).2)

omit [FloatOps F] in
theorem mayWait_rcv (c : Dev nD) (t k : Fin 6) (n : ℕ) (hn : (cix t k).val < n) :
    (levAts L lv : sProp 𝕄) ⊢ MayWait (c : Thread nD τ) (.dma (rSemE (cix t k))) () (Ow c n) :=
  mayWait_lt c _ _ fun g u hg => ⟨(Ow_pos hg).1, by
    have h1 := (Ow_pos hg).2
    have h2 : lvOf (.dma (rSemE (cix t k))) = (cix t k).val + 2 := lv_rcv c t k ()
    omega⟩

omit [FloatOps F] in
theorem mayWait_bar (c : Dev nD) : (levAts L lv : sProp 𝕄) ⊢ MayWait (c : Thread nD τ) (.reg barSem) () (Ow c 0) :=
  mayWait_lt c _ _ fun g u hg => ⟨(Ow_pos hg).1, by have h1 := (Ow_pos hg).2; show 1 < _; omega⟩

omit [FloatOps F] in
theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  rcases hO with rfl | rfl
  · exact mayWait_lt c _ _ fun g u hg => ⟨(O₀_pos hg).1, by
      have := (O₀_pos hg).2
      show (if _ then _ else _) < _
      rw [if_pos (by omega)]; omega⟩
  · rw [MayWait_zero]; iintro -; iempintro

end Cert.KProof
-- ==== Proof.Blocks.lean ====
/-
What the passages compute on a block: each stored value is the partial sum, or the finished element, of its place.
-/
module

public import proofs.«01_k».proof.Proof.Content

@[expose] public section

noncomputable section

namespace Cert.KProof

open Cert.KernelIdeal Cert.KernelIdeal.Gen
open Idealize.ShloMosaic Idealize.ShloMosaic.ValueIdx Idealize.SL.Sem

variable {F : FTy → Type} [FloatOps F]

/-- A block of the result buffer. -/
abbrev oR (s : Fin 3) (o : Fin 2 → ℕ) (ho : ∀ a, o a + (Sh s).size a ≤ S1536x1536.size a) : Rect S1536x1536 :=
  Rect.unit (s := S1536x1536) o (Sh s).size ho
/-- A block of the receive buffer. -/
abbrev rR (s : Fin 3) (r : Fin 2 → ℕ) (hr : ∀ a, r a + (Sh s).size a ≤ S1344x1536.size a) : Rect S1344x1536 :=
  Rect.unit (s := S1344x1536) r (Sh s).size hr
/-- Chunk `k` of the right operand. -/
abbrev cR (k : Fin 6) : Rect S768x1536 := Rect.unit (s := S768x1536) ![0, col k] S768x256.size (col_inb k)

theorem base_mod (c : Dev nD) (k : Fin 6) : base c k 1 % 768 = 0 ∧ sbase c k 0 % 768 = 0 := by
  revert c k; decide +kernel

section
variable (A : Dev nD → S1536x768.Idx → F .bf16) (B : Dev nD → S768x1536.Idx → F .bf16)

/-- The received element that belongs to element `i` of the result. -/
theorem Rv_at (c : Dev nD) (s : Fin 3) (k : Fin 6) (i : S1536x1536.Idx) (j : S1344x1536.Idx)
    (h0 : (j 0).val + base c k (s.val + 1) = RB s + (i 0).val) (hj : RB s ≤ (j 0).val) (h1 : (j 1).val = (i 1).val) :
    Rv A B c s k j = PS A B s (par c k s) i := by
  unfold Rv
  congr 1
  refine Eq.trans (congrArg₂ ix2 (Fin.ext ?_) (Fin.ext ?_)) (eq_ix2 i).symm
  · show ((j 0).val - RB s + base c k (s.val + 1)) % 1536 = (i 0).val
    have : (i 0).val < 1536 := (i 0).isLt
    rw [Nat.mod_eq_of_lt (by omega)]; omega
  · exact h1

/-- A half of a chunk's product is the partial sums after no exchange. -/
theorem dot_block (c : Dev nD) (k : Fin 6) (w : ℕ) (hw : w % 768 = 0) (r o : Fin 2 → ℕ) (hr ho)
    (er : r = ![w, 0]) (eo : o = ![w, col k]) (gb : S768x1536.Idx → F .bf16)
    (hgb : ∀ y, gb ((cR k).emb y) = B c ((cR k).emb y)) (y : (Sh 0).Idx) :
    dotPay (fun y => A c ((Rect.unit (s := S1536x768) r S768x768.size hr).emb y)) (fun y => gb ((cR k).emb y)) y
      = P0 A B c ((oR 0 o ho).emb y) := by
  subst er eo
  have y0 : (y 0).val < 768 := (y 0).isLt
  have y1 : (y 1).val < 256 := (y 1).isLt
  have hk : k.val < 6 := k.isLt
  have e0 : ((oR 0 ![w, col k] ho).emb y 0).val = w + (y 0).val := unit_emb0 ho y
  have e1 : ((oR 0 ![w, col k] ho).emb y 1).val = col k + (y 1).val := unit_emb1 ho y
  have hcol : col k = 256 * k.val := rfl
  have hw' : w + 768 ≤ 1536 := ho 0
  unfold P0 prod1
  congr 1
  · funext z
    have z0 : (z 0).val < 768 := (z 0).isLt
    unfold rowsOf
    refine congrArg (A c) ((eq_ix2 _).trans (congrArg₂ ix2 (Fin.ext ?_) (Fin.ext ?_)))
    · refine (unit_emb0 hr z).trans ?_
      show w + (z 0).val = (768 * (_ / 768) + (z 0).val) % 1536
      rw [e0]; omega
    · refine (unit_emb1 hr z).trans ?_
      show 0 + (z 1).val = _; omega
  · funext z
    have z1 : (z 1).val < 256 := (z 1).isLt
    rw [hgb]
    unfold colsOf
    refine congrArg (B c) ((eq_ix2 _).trans (congrArg₂ ix2 (Fin.ext ?_) (Fin.ext ?_)))
    · refine (unit_emb0 (col_inb k) z).trans ?_
      show 0 + (z 0).val = _; omega
    · refine (unit_emb1 (col_inb k) z).trans ?_
      show col k + (z 1).val = (256 * (_ / 256) + (z 1).val) % 1536
      rw [e1]; omega
  · refine (eq_ix2 y).trans (congrArg₂ ix2 (Fin.ext ?_) (Fin.ext ?_))
    · show (y 0).val = _ % 768
      rw [e0]; omega
    · show (y 1).val = _ % 256
      rw [e1]; omega

/-- The chunk of an element of a block. -/
theorem chk_block (s : Fin 3) (k : Fin 6) (w : ℕ) (ho) (y : (Sh s).Idx) : chk ((oR s ![w, col k] ho).emb y) = k := by
  have y1 : (y 1).val < 256 := (y 1).isLt
  have e1 : ((oR s ![w, col k] ho).emb y 1).val = col k + (y 1).val := unit_emb1 ho y
  refine Fin.ext ?_
  show _ / 256 = k.val
  rw [e1]; show (256 * k.val + (y 1).val) / 256 = k.val; omega

/-- A block of `n` rows at row `w` of the part kept, held and received. -/
theorem recv_block (c : Dev nD) (s s' : Fin 3) (k : Fin 6) (w : ℕ) (r o : Fin 2 → ℕ) (hr ho)
    (hw : base c k (s.val + 1) ≤ w) (er : r = ![RB s + (w - base c k (s.val + 1)), col k]) (eo : o = ![w, col k])
    (y : (Sh s').Idx) : Rv A B c s k ((rR s' r hr).emb y) = PS A B s (par c k s) ((oR s' o ho).emb y) := by
  subst er eo
  have e0 : ((oR s' ![w, col k] ho).emb y 0).val = w + (y 0).val := unit_emb0 ho y
  have e1 : ((oR s' ![w, col k] ho).emb y 1).val = col k + (y 1).val := unit_emb1 ho y
  have f0 : ((rR s' ![RB s + (w - base c k (s.val + 1)), col k] hr).emb y 0).val
      = RB s + (w - base c k (s.val + 1)) + (y 0).val := unit_emb0 hr y
  have f1 : ((rR s' ![RB s + (w - base c k (s.val + 1)), col k] hr).emb y 1).val = col k + (y 1).val := unit_emb1 hr y
  refine Rv_at A B c s k _ _ ?_ ?_ ?_
  · rw [e0, f0]; omega
  · rw [f0]; omega
  · rw [e1, f1]

/-- A sum of what is held and what was received is the next partial sum. -/
theorem add_block (c : Dev nD) (e : Fin 2) (k : Fin 6) (w : ℕ) (r o : Fin 2 → ℕ) (hr ho)
    (hw : base c k (e.val + 1) ≤ w) (er : r = ![RB e.castSucc + (w - base c k (e.val + 1)), col k]) (eo : o = ![w, col k])
    (y : (Sh e.succ).Idx) :
    addPay e.succ (fun y => PS A B e.castSucc c ((oR e.succ o ho).emb y))
      (fun y => Rv A B c e.castSucc k ((rR e.succ r hr).emb y)) y = PS A B e.succ c ((oR e.succ o ho).emb y) := by
  rw [addPay_apply, PS_succ, recv_block A B c e.castSucc e.succ k w r o hr ho hw er eo]
  subst eo
  rw [chk_block]

/-- The last sum with the activation is the finished element. -/
theorem gelu_block (c : Dev nD) (k : Fin 6) (o : Fin 2 → ℕ) (ho) (eo : o = ![base c k 3, col k]) (y : (Sh 2).Idx) :
    geluPay (fun y => PS A B 2 c ((oR 2 o ho).emb y)) (fun y => Rv A B c 2 k ((rR 2 ![RB 2, col k] (dst_inb 2 k)).emb y)) y
      = Gf A B ((oR 2 o ho).emb y) := by
  have e0 : ((oR 2 o ho).emb y 0).val = o 0 + (y 0).val := unit_emb0 ho y
  have e1 : ((oR 2 o ho).emb y 1).val = o 1 + (y 1).val := unit_emb1 ho y
  have y0 : (y 0).val < 192 := (y 0).isLt
  have y1 : (y 1).val < 256 := (y 1).isLt
  have hm : (oR 2 o ho).emb y ∈ R c k 3 := by
    subst eo
    refine mem_rct.mpr ⟨⟨?_, ?_⟩, ?_, ?_⟩
    · rw [e0]; exact Nat.le_add_right _ _
    · rw [e0]; exact Nat.add_lt_add_left y0 _
    · rw [e1]; exact Nat.le_add_right _ _
    · rw [e1]; exact Nat.add_lt_add_left y1 _
  have hr := recv_block A B c 2 2 k (base c k 3) ![RB 2, col k] o (dst_inb 2 k) ho (le_refl _)
    (by rw [show (2 : Fin 3).val + 1 = 3 from rfl, Nat.sub_self, Nat.add_zero]) eo y
  refine (geluPay_apply _ _ y).trans ?_
  refine Eq.trans ?_ (Gf_of_R A B hm).symm
  refine (congrArg _ hr).trans ?_
  unfold Gl
  rw [chk_of_R hm]
  rfl

/-- Both halves of a part lie in it. -/
theorem half_le (c : Dev nD) (e : Fin 2) (k : Fin 6) :
    base c k (e.val + 1) ≤ sbase c k e.succ ∧ base c k (e.val + 1) ≤ base c k (e.val + 2)
      ∧ sbase c k e.succ + SZ e.succ ≤ base c k (e.val + 1) + SZ e.castSucc
      ∧ base c k (e.val + 2) + SZ e.succ ≤ base c k (e.val + 1) + SZ e.castSucc := by
  revert c e k; decide +kernel

/-- The half of a received block lies in its part of the receive buffer. -/
theorem rR_sub (s s' : Fin 3) (k : Fin 6) (w : ℕ) (r : Fin 2 → ℕ) (hr) (er : r = ![RB s + w, col k])
    (hw : w + SZ s' ≤ SZ s) : (rR s' r hr).set ⊆ slot s k := by
  intro i hi
  have hi := (unit_set er hr : (rR s' r hr).set = rct (RB s + w) (SZ s') (col k) 256) ▸ hi
  obtain ⟨⟨h1, h2⟩, h3⟩ := mem_rct.mp hi
  exact mem_rct.mpr ⟨⟨by omega, by omega⟩, h3⟩

end

end Cert.KProof
-- ==== Proof.Triples.lean ====
/-
Triples over the kernel's programs, and the accesses of its buffers.

`Tr c P p Q` says that device `c`, holding `P`, runs `p` and then holds `Q`.
-/
module

public import proofs.«01_k».proof.Proof.Sched
public import proofs.«01_k».proof.Proof.Blocks

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Weakest precondition of a program of the body, on device `c`. -/
abbrev Wp (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c`, holding `P`, runs `p` and then holds `Q`. -/
def Tr (c : Dev nD) (P : sProp 𝕄) (p : Pr F) (Q : sProp 𝕄) : Prop :=
  P ⊢ Wp c p fun _ => Q

namespace Tr
variable {c : Dev nD} {P P' Q Q' R : sProp (MT nD τ sig Unit (Elt F) ℕ UU ℕ)} {p q : Pr F}

theorem seq (h : Tr c P p Q) (h' : Tr c Q q R) : Tr c P (p >>= fun _ => q) R := by
  unfold Tr Wp at *
  rw [wp_bind]
  exact h.trans (wp_mono _ _ _ fun _ => h')

theorem conseq (h : P ⊢ P') (ht : Tr c P' p Q') (h' : Q' ⊢ Q) : Tr c P p Q :=
  h.trans (ht.trans (wp_mono _ _ _ fun _ => h'))

theorem pre (h : P ⊢ P') (ht : Tr c P' p Q) : Tr c P p Q := h.trans ht

theorem post (ht : Tr c P p Q') (h' : Q' ⊢ Q) : Tr c P p Q := ht.conseq .rfl h'

theorem frame (R : sProp 𝕄) (h : Tr c P p Q) : Tr c iprop(P ∗ R) p iprop(Q ∗ R) :=
  (sep_mono_left h).trans (wp_frame_r _ _ _)

theorem ret (x : PUnit) : Tr c P (Pure.pure x : Pr F) P := by
  unfold Tr Wp
  rw [Prog.pure_eq_ret, wp_ret]
  iintro H; imodintro; iexact H

/-- A loop whose passages each turn one resource into another, beside a running state. -/
theorem loop (G : sProp 𝕄) [BI.Persistent G] : ∀ (n : ℕ) (I : ℕ → sProp 𝕄) (Φ Ψ : Fin n → sProp 𝕄) (f : Fin n → Pr F)
    (h : ∀ k : Fin n, Tr c iprop(G ∗ I k.val ∗ Φ k) (f k) iprop(I (k.val + 1) ∗ Ψ k)),
    Tr c iprop(G ∗ I 0 ∗ bigSep Finset.univ Φ) (KProof.loop n f) iprop(I n ∗ bigSep Finset.univ Ψ)
  | 0, I, Φ, Ψ, f, h => by
    unfold KProof.loop
    refine (ret _).pre ?_
    iintro ⟨-, HI, -⟩
    isplitl; · iexact HI
    exact .rfl
  | n + 1, I, Φ, Ψ, f, h => by
    have hu : ∀ X : Fin (n + 1) → sProp 𝕄, bigSep Finset.univ X
        = iprop(X 0 ∗ bigSep Finset.univ fun i : Fin n => X i.succ) := fun X => by
      rw [Fin.univ_succ, Finset.cons_eq_insert, bigSep_insert (by simp [Fin.succ_ne_zero]), bigSep_map]; rfl
    have h0 : Tr c iprop(G ∗ I 0 ∗ Φ 0) (f 0) iprop(I 1 ∗ Ψ 0) := h 0
    unfold KProof.loop
    rw [hu, hu]
    refine Tr.seq (Q := iprop((I 1 ∗ Ψ 0) ∗ G ∗ bigSep Finset.univ fun i : Fin n => Φ i.succ)) ?_ ?_
    · refine (h0.frame iprop(G ∗ bigSep Finset.univ fun i : Fin n => Φ i.succ)).pre ?_
      iintro ⟨#HG, HI, H0, H⟩
      isplitl [HI H0]
      · isplitr; · iexact HG
        isplitl [HI]; · iexact HI
        iexact H0
      isplitr; · iexact HG
      iexact H
    · refine ((loop G n (fun j => I (j + 1)) (fun i => Φ i.succ) (fun i => Ψ i.succ) (fun i => f i.succ)
        (fun k => h k.succ)).frame (Ψ 0)).conseq ?_ ?_
      · iintro ⟨⟨HI, H0⟩, HG, H⟩
        isplitl [HI HG H]
        · isplitl [HG]; · iexact HG
          isplitl [HI] <;> iassumption
        iexact H0
      · iintro ⟨⟨HI, H⟩, H0⟩
        isplitl [HI]; · iexact HI
        isplitl [H0] <;> iassumption

/-- A passage at the head of a program. -/
theorem step (h : Tr c P p Q) : P ⊢ iprop((Q -∗ Wp c q fun _ => R) -∗ Wp c (p >>= fun _ => q) fun _ => R) := by
  iintro HP HK
  unfold Wp
  rw [wp_bind]
  iapply (wp_wand_r _ _ _)
  isplitl [HP]
  · iapply (show P ⊢ Wp c p fun _ => Q from h); iexact HP
  iintro %_ HQ
  iapply HK; iexact HQ

/-- A passage at the end of a program. -/
theorem last (h : Tr c P p Q) : P ⊢ iprop((Q -∗ R) -∗ Wp c p fun _ => R) := by
  iintro HP HK
  iapply (wp_wand_r _ _ _)
  isplitl [HP]
  · iapply (show P ⊢ Wp c p fun _ => Q from h); iexact HP
  iintro %_ HQ
  iapply HK; iexact HQ

end Tr

/-! ## Accesses -/

section
variable (c : Dev nD) (s : Fin 3) (o r : Fin 2 → ℕ) (ho : ∀ a, o a + (Sh s).size a ≤ S1536x1536.size a)
  (hr : ∀ a, r a + (Sh s).size a ≤ S1344x1536.size a)

/-- What a store of `v` to a block of the result leaves, on the block, when it is what `g` says. -/
theorem write_block (f g : S1536x1536.Idx → F .bf16) (v : (Sh s).Idx → F .bf16)
    (h : ∀ y, v y = g ((oR s o ho).emb y)) (i) (hi : i ∈ (oR s o ho).set) :
    ((outM.access (oR s o ho)).write (Elt F) f v Finset.univ : S1536x1536.Idx → F .bf16) i = g i := by
  obtain ⟨y, rfl⟩ := (oR s o ho).toLoadRect.exists_idx_of_mem hi
  exact (View.write_emb_of_mem (Val := Elt F) (v := outM.access (oR s o ho)) f v (Finset.mem_univ y)).trans (h y)

theorem out_access_set : (outM.access (oR s o ho)).set = (oR s o ho).set := View.set_slice_whole _ _
theorem rs_access_set : (rsM.access (rR s r hr)).set = (rR s r hr).set := View.set_slice_whole _ _

/-- The sum of a block and a received block, stored back. -/
theorem addHalf_tr (hp) (pay : Vec F (Sh s) .bf16 → Vec F (Sh s) .bf16 → FVec F (Sh s) .bf16)
    {X : Finset S1536x1536.Idx} {Y : Finset S1344x1536.Idx} {q : PosShare TreeShare}
    {g g' : S1536x1536.Idx → F .bf16} {h : S1344x1536.Idx → F .bf16}
    (hX : X = (oR s o ho).set) (hY : (rR s r hr).set ⊆ Y)
    (hv : ∀ y, pay (fun y => g ((oR s o ho).emb y)) (fun y => h ((rR s r hr).emb y)) y = g' ((oR s o ho).emb y)) :
    Tr c iprop(outPt c X fullShare g ∗ rsPt c Y q h) (addHalf s o ho hp r hr pay)
      iprop(outPt c X fullShare g' ∗ rsPt c Y q h) := by
  subst hX
  unfold Tr addHalf outPt rsPt
  simp only [Prog.lift, Prog.bind_op, Prog.bind_ret, Prog.pure_eq_ret]
  iintro ⟨Ho, Hr⟩
  iapply (wp_load_rect 𝒱₀ (c : Thread nD τ) none Set.univ (m := outM) (r := oR s o ho) (by rw [out_access_set])) $$ Ho; iintro Ho
  iapply (wp_load_rect 𝒱₀ (c : Thread nD τ) none Set.univ (m := rsM) (r := rR s r hr) (by rw [rs_access_set]; exact hY)) $$ Hr; iintro Hr
  iapply (wp_load_rect 𝒱₀ (c : Thread nD τ) none Set.univ (m := outM) (r := oR s o ho) (by rw [out_access_set])) $$ Ho; iintro Ho
  iapply (wp_store 𝒱₀ (c : Thread nD τ) none Set.univ (m := outM) (r := oR s o ho) (Mk := Finset.univ) (by rw [View.setOn_univ, out_access_set])) $$ Ho; iintro Ho
  rw [wp_ret]; imodintro
  isplitl [Ho]
  · iapply (Entails.of_eq (pointsTo_congr fun i hi => write_block s o ho g g' _ hv i hi)) $$ Ho
  iexact Hr

end

/-! The operands and their copies. -/

/-- Device `c`'s block of the left operand, staged. -/
def aPt (c : Dev nD) (g : S1536x768.Idx → F .bf16) : sProp 𝕄 :=
  (aM : Memref sig .tc .vmem S1536x768 .bf16).view.loc (c : Thread nD τ) ↦[Finset.univ]{fullShare} g
/-- Device `c`'s block of the right operand, staged. -/
def bPt (c : Dev nD) (g : S768x1536.Idx → F .bf16) : sProp 𝕄 :=
  (bM : Memref sig .tc .vmem S768x1536 .bf16).view.loc (c : Thread nD τ) ↦[Finset.univ]{fullShare} g
/-- The scratch copy of the left operand. -/
def a2Pt (c : Dev nD) (g : S1536x768.Idx → F .bf16) : sProp 𝕄 :=
  (a2M : Memref sig .tc .vmem S1536x768 .bf16).view.loc (c : Thread nD τ) ↦[Finset.univ]{fullShare} g
/-- The scratch copy of the right operand. -/
def b2Pt (c : Dev nD) (g : S768x1536.Idx → F .bf16) : sProp 𝕄 :=
  (b2M : Memref sig .tc .vmem S768x1536 .bf16).view.loc (c : Thread nD τ) ↦[Finset.univ]{fullShare} g

theorem zz : (![0, 0] : Fin 2 → ℕ) = fun _ => 0 := by decide

/-- The whole left operand, as a block. -/
abbrev wR : Rect S1536x768 := Rect.unit (s := S1536x768) ![0, 0] S1536x768.size inb_S1536x768_S1536x768_0_0

/-- The whole left operand, read. -/
theorem read_aM (g : S1536x768.Idx → F .bf16) : (aM.access wR).read (Elt F) g = g :=
  Memref.readAt_unit_zero (Elt F) cc0_stg0_0 zz _ g

/-- The whole scratch, written. -/
theorem write_a2M (f w : S1536x768.Idx → F .bf16) : (a2M.access wR).write (Elt F) f w Finset.univ = w :=
  Memref.write_access_unit_zero_univ (Elt F) cc0_scratch0 zz _ f w

theorem copyA_tr (c : Dev nD) (g f : S1536x768.Idx → F .bf16) :
    Tr c iprop(aPt c g ∗ a2Pt c f) copyA iprop(aPt c g ∗ a2Pt c g) := by
  unfold Tr copyA aPt a2Pt
  simp only [Prog.lift, Prog.bind_op, Prog.bind_ret, Prog.pure_eq_ret]
  iintro ⟨Ha, Hs⟩
  iapply (wp_load_rect 𝒱₀ (c : Thread nD τ) none Set.univ (m := aM) (r := wR) (Finset.subset_univ _)) $$ Ha; iintro Ha
  rw [read_aM g]
  iapply (wp_load_rect 𝒱₀ (c : Thread nD τ) none Set.univ (m := a2M) (r := wR) (Finset.subset_univ _)) $$ Hs; iintro Hs
  iapply (wp_store 𝒱₀ (c : Thread nD τ) none Set.univ (m := a2M) (r := wR) (Mk := Finset.univ) (Finset.subset_univ _)) $$ Hs; iintro Hs
  rw [write_a2M, pay1_eq, wp_ret]; imodintro
  isplitl [Ha]; · iexact Ha
  iexact Hs

theorem copyB_tr (c : Dev nD) (k : Fin 6) (g f : S768x1536.Idx → F .bf16) :
    Tr c iprop(bPt c g ∗ b2Pt c f) (copyB k)
      iprop(bPt c g ∗ ∃ f', ⌜∀ y, f' ((cR k).emb y) = g ((cR k).emb y)⌝ ∗ b2Pt c f') := by
  unfold Tr copyB bPt b2Pt
  simp only [Prog.lift, Prog.bind_op, Prog.bind_ret, Prog.pure_eq_ret]
  iintro ⟨Hb, Hs⟩
  iapply (wp_load_rect 𝒱₀ (c : Thread nD τ) none Set.univ (m := bM) (r := cR k) (Finset.subset_univ _)) $$ Hb; iintro Hb
  iapply (wp_load_rect 𝒱₀ (c : Thread nD τ) none Set.univ (m := b2M) (r := cR k) (Finset.subset_univ _)) $$ Hs; iintro Hs
  iapply (wp_store 𝒱₀ (c : Thread nD τ) none Set.univ (m := b2M) (r := cR k) (Mk := Finset.univ) (Finset.subset_univ _)) $$ Hs; iintro Hs
  rw [wp_ret]; imodintro
  isplitl [Hb]; · iexact Hb
  iexists ((b2M.access (cR k)).write (Elt F) f (copyPay ((bM.access (cR k)).read (Elt F) g)) Finset.univ)
  isplitr
  · ipureintro; intro y
    refine (View.write_emb_of_mem (Val := Elt F) (v := b2M.access (cR k)) f _ (Finset.mem_univ y)).trans ?_
    rw [copyPay_eq]; rfl
  iexact Hs

/-- One half of a chunk's product, stored. -/
theorem dotHalf_tr (c : Dev nD) (k : Fin 6) (r : Fin 2 → ℕ) (hr : ∀ a, r a + S768x768.size a ≤ S1536x768.size a)
    (o : Fin 2 → ℕ) (ho hp) {X : Finset S1536x1536.Idx} (ga : S1536x768.Idx → F .bf16) (gb : S768x1536.Idx → F .bf16)
    {f g' : S1536x1536.Idx → F .bf16} (hX : X = (oR 0 o ho).set)
    (hv : ∀ y, dotPay (fun y => ga ((Rect.unit (s := S1536x768) r S768x768.size hr).emb y)) (fun y => gb ((cR k).emb y)) y
      = g' ((oR 0 o ho).emb y)) :
    Tr c iprop(a2Pt c ga ∗ b2Pt c gb ∗ outPt c X fullShare f) (dotHalf k r hr o ho hp)
      iprop(a2Pt c ga ∗ b2Pt c gb ∗ outPt c X fullShare g') := by
  subst hX
  unfold Tr dotHalf a2Pt b2Pt outPt
  simp only [Prog.lift, Prog.bind_op, Prog.bind_ret, Prog.pure_eq_ret]
  iintro ⟨Ha, Hb, Ho⟩
  iapply (wp_load_rect 𝒱₀ (c : Thread nD τ) none Set.univ (m := a2M) (r := Rect.unit (s := S1536x768) r S768x768.size hr)
    (Finset.subset_univ _)) $$ Ha; iintro Ha
  iapply (wp_load_rect 𝒱₀ (c : Thread nD τ) none Set.univ (m := b2M) (r := cR k) (Finset.subset_univ _)) $$ Hb; iintro Hb
  iapply (wp_load_rect 𝒱₀ (c : Thread nD τ) none Set.univ (m := outM) (r := oR 0 o ho) (by rw [out_access_set])) $$ Ho; iintro Ho
  iapply (wp_store 𝒱₀ (c : Thread nD τ) none Set.univ (m := outM) (r := oR 0 o ho) (Mk := Finset.univ) (by rw [View.setOn_univ, out_access_set])) $$ Ho; iintro Ho
  rw [wp_ret]; imodintro
  isplitl [Ha]; · iexact Ha
  isplitl [Hb]; · iexact Hb
  iapply (Entails.of_eq (pointsTo_congr fun i hi => write_block 0 o ho f g' _ hv i hi)) $$ Ho

end Cert.KProof
-- ==== Proof.Comm.lean ====
/-
The communication passages of the body: the handshake, the sends, the waits, each as a triple.

Every passage has the records of all cells at hand and consumes or returns the ghost resources of its own cells only.
-/
module

public import proofs.«01_k».proof.Proof.Triples

@[expose] public section

noncomputable section

namespace Cert.KProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells, numbered -/

/-- A device's own DMA semaphores besides the staging ones: 36 departure, 36 arrival. -/
def osem (i : Fin 72) : SemLoc sig := .dma ⟨3 + i.val, by have := i.isLt; show _ < 75; omega⟩
/-- All cells of a device. -/
def csem : Option (Fin 72) → SemLoc sig
  | none => .reg barSem
  | some i => osem i
def kcell (x : Dev nD × Option (Fin 72)) : GSem nD τ sig := ((x.1 : Thread nD τ), csem x.2)

/-- Number of a departure cell. -/
abbrev sI (t k : Fin 6) : Fin 72 := ⟨6 * t.val + k.val, by omega⟩
/-- Number of an arrival cell. -/
abbrev rI (t k : Fin 6) : Fin 72 := ⟨36 + (6 * t.val + k.val), by omega⟩

theorem osem_sI (t k : Fin 6) : osem (sI t k) = .dma (sSemE (cix t k)) :=
  congrArg SemLoc.dma (Fin.ext (sSem_val (cix t k)).symm)
theorem osem_rI (t k : Fin 6) : osem (rI t k) = .dma (rSemE (cix t k)) :=
  congrArg SemLoc.dma (Fin.ext ((show 3 + (36 + (6 * t.val + k.val)) = 39 + (6 * t.val + k.val) by omega).trans
    (rSem_val (cix t k)).symm))
theorem kcell_s (c t k) : kcell (c, some (sI t k)) = sCell c t k := congrArg (Prod.mk (c : Thread nD τ)) (osem_sI t k)
theorem kcell_r (c t k) : kcell (c, some (rI t k)) = rCell c t k := congrArg (Prod.mk (c : Thread nD τ)) (osem_rI t k)

section
variable (A : Dev nD → S1536x768.Idx → F .bf16) (B : Dev nD → S768x1536.Idx → F .bf16)
  (K : Dev nD × Option (Fin 72) → ℕ)

/-- What every device knows of all cells: their invariants, and that they have reached their only round. -/
def records : sProp 𝕄 :=
  iprop((bigSep Finset.univ fun x : Dev nD × Option (Fin 72) => cellInv ER (Rd A B) (K x) (kcell x))
    ∗ bigSep Finset.univ fun x : Dev nD × Option (Fin 72) => reached ER (kcell x) 0)
instance records_persistent : BI.Persistent (records A B K) := by unfold records; infer_instance

/-- The records and the levels. -/
def glo : sProp 𝕄 := iprop(records A B K ∗ levAts L lv)
instance glo_persistent : BI.Persistent (glo A B K) := by unfold glo; infer_instance

theorem inv_mem (x) : (bigSep Finset.univ fun x : Dev nD × Option (Fin 72) => (cellInv ER (Rd A B) (K x) (kcell x) : sProp 𝕄))
    ⊢ cellInv ER (Rd A B) (K x) (kcell x) := bigSep_elim (Finset.mem_univ x)
omit [FloatOps F] in
theorem reached_mem (x) : (bigSep Finset.univ fun x : Dev nD × Option (Fin 72) => (reached ER (kcell x) 0 : sProp 𝕄))
    ⊢ reached ER (kcell x) 0 := bigSep_elim (Finset.mem_univ x)

theorem glo_inv (x) : glo A B K ⊢ cellInv ER (Rd A B) (K x) (kcell x) := by
  unfold glo records; iintro ⟨⟨H, -⟩, -⟩
  iapply (inv_mem A B K x) $$ H
theorem glo_reached (x) : glo A B K ⊢ reached ER (kcell x) 0 := by
  unfold glo records; iintro ⟨⟨-, H⟩, -⟩
  iapply (reached_mem (F := F) x) $$ H
theorem glo_lev : glo A B K ⊢ levAts L lv := by unfold glo; iintro ⟨-, H⟩; iexact H

theorem inv_s (c t k) : glo A B K ⊢ cellInv ER (Rd A B) (K (c, some (sI t k))) (sCell c t k) :=
  (glo_inv A B K _).trans (Entails.of_eq (by rw [kcell_s]))
theorem inv_r (c t k) : glo A B K ⊢ cellInv ER (Rd A B) (K (c, some (rI t k))) (rCell c t k) :=
  (glo_inv A B K _).trans (Entails.of_eq (by rw [kcell_r]))
theorem inv_b (c) : glo A B K ⊢ cellInv ER (Rd A B) (K (c, none)) (barCell c) := glo_inv A B K _
theorem re_s (c t k) : glo A B K ⊢ reached ER (sCell c t k) 0 :=
  (glo_reached A B K _).trans (Entails.of_eq (by rw [← kcell_s]))
theorem re_r (c t k) : glo A B K ⊢ reached ER (rCell c t k) 0 :=
  (glo_reached A B K _).trans (Entails.of_eq (by rw [← kcell_r]))
theorem re_b (c) : glo A B K ⊢ reached ER (barCell c) 0 := glo_reached A B K (c, none)

/-- What device `c` owes, whatever it has waited for. -/
def OW (c : Dev nD) (O : CellTallies nD τ sig Unit) : sProp 𝕄 := iprop(∃ W, owes (c : Thread nD τ) O W)

/-- The two duties a copy pays. -/
def toks (c : Dev nD) (t k : Fin 6) : sProp 𝕄 :=
  iprop(dutyTok ER (sCell c t k) 0 (0 : Fin 3) ∗ dutyTok ER (rCell (dst c t k) t k) 0 (0 : Fin 3))

/-- What a departure wait needs. -/
def sndW (c : Dev nD) (t k : Fin 6) : sProp 𝕄 :=
  iprop(cred (tallyAt (sCell c t k) () (amt (sOf t))) ∗ atPos ER (sCell c t k) 0 ∅ 0)
/-- What an arrival wait needs. -/
def rcvW (c : Dev nD) (t k : Fin 6) : sProp 𝕄 :=
  iprop(cred (tallyAt (rCell c t k) () (amt (sOf t))) ∗ atPos ER (rCell c t k) 0 ∅ 0)

/-! ## Waits -/

/-- Waiting for an arrival. -/
theorem rcv_tr (c : Dev nD) (t k : Fin 6) (n : ℕ) (hn : (cix t k).val < n) {s : Shape}
    (m m' : Memref sig .tc .vmem s .bf16) (h h') (hm : m'.view.dmaCredit = amt (sOf t)) :
    Tr c iprop(glo A B K ∗ OW c (Ow c n) ∗ rcvW c t k) (Prog.lift (.waitDma2 (rSemE (cix t k)) m m' h h'))
      iprop(OW c (Ow c n) ∗ atPos ER (rCell c t k) (0 + 1) ∅ 0 ∗ rcvPay A B c t k) := by
  unfold Tr rcvW OW
  simp only [Prog.lift]
  iintro ⟨#HG, ⟨%W, HO⟩, Hc, Hat⟩
  iapply (Rounds.wp_wait_rest_token 𝒱₀ ER (Rd A B) (c : Thread nD τ) none (κ := K (c, some (rI t k)))
      (wpE_waitDma2_eq 𝒱₀ (c : Thread nD τ) none Set.univ) (Set.mem_univ _) () (O := Ow c n) (W := W) (R := 0) (m := 0) (T := ∅)
      (by rw [Nat.zero_add, expect_rcv]; exact hm)) $$ [Hc HO Hat]
  · isplitr; · iapply (inv_r A B K c t k); iexact HG
    isplitl [Hc]; · rw [hm]; iexact Hc
    isplitl [HO]; · iexact HO
    isplitr
    · iapply (mayWait_rcv c t k n hn); iapply (glo_lev A B K); iexact HG
    iexact Hat
  iintro ⟨HO, Hat, -, Hpay⟩
  rw [wp_ret]; imodintro
  isplitl [HO]; · iexists _; iexact HO
  isplitl [Hat]; · iexact Hat
  iapply (Entails.of_eq (rest_rcv A B c t k)) $$ Hpay

/-- Waiting for a departure. -/
theorem snd_tr (c : Dev nD) (t k : Fin 6) {s : Shape}
    (m m' : Memref sig .tc .vmem s .bf16) (h h') (hm : m'.view.dmaCredit = amt (sOf t)) :
    Tr c iprop(glo A B K ∗ OW c 0 ∗ sndW c t k) (Prog.lift (.waitDma2 (sSemE (cix t k)) m m' h h'))
      iprop(OW c 0 ∗ atPos ER (sCell c t k) (0 + 1) ∅ 0 ∗ sndPay A B c t k) := by
  unfold Tr sndW OW
  simp only [Prog.lift]
  iintro ⟨#HG, ⟨%W, HO⟩, Hc, Hat⟩
  iapply (Rounds.wp_wait_rest_token 𝒱₀ ER (Rd A B) (c : Thread nD τ) none (κ := K (c, some (sI t k)))
      (wpE_waitDma2_eq 𝒱₀ (c : Thread nD τ) none Set.univ) (Set.mem_univ _) () (O := 0) (W := W) (R := 0) (m := 0) (T := ∅)
      (by rw [Nat.zero_add, expect_snd]; exact hm)) $$ [Hc HO Hat]
  · isplitr; · iapply (inv_s A B K c t k); iexact HG
    isplitl [Hc]; · rw [hm]; iexact Hc
    isplitl [HO]; · iexact HO
    isplitr; · rw [MayWait_zero]; iempintro
    iexact Hat
  iintro ⟨HO, Hat, -, Hpay⟩
  rw [wp_ret]; imodintro
  isplitl [HO]; · iexists _; iexact HO
  isplitl [Hat]; · iexact Hat
  iapply (Entails.of_eq (rest_snd A B c t k)) $$ Hpay

/-! ## Sends -/

theorem mem_snd (c t k) : (0 : Fin 3) ∈ (Rd A B).duties (sCell c t k) 0 := by
  rw [duties_snd]; exact Finset.mem_singleton_self _
theorem mem_rcv (c t k) : (0 : Fin 3) ∈ (Rd A B).duties (rCell c t k) 0 := by
  rw [duties_rcv]; exact Finset.mem_singleton_self _

/-- What lands in the partner's receive buffer is what it says. -/
theorem rs_landed (c : Dev nD) (s : Fin 3) (k : Fin 6) (f : S1344x1536.Idx → F .bf16) (g : S1536x1536.Idx → F .bf16)
    (hg : ∀ i ∈ Sd c k s, g i = PS A B s c i) (i) (hi : i ∈ slot s k) :
    ((dstM s k).view.write (Elt F) f ((srcM s k c).view.read (Elt F) g) Finset.univ : S1344x1536.Idx → F .bf16) i
      = Rv A B (par c k s) s k i := by
  rw [← dstM_set] at hi
  obtain ⟨y, -, rfl⟩ := Finset.mem_map.mp hi
  refine (View.write_emb_of_mem (Val := Elt F) (v := (dstM s k).view) f _ (Finset.mem_univ y)).trans ?_
  have e0 : (((dstM s k).view.emb y : S1344x1536.Idx) 0).val = RB s + (y 0).val := unit_emb0 (dst_inb s k) y
  have e1 : (((dstM s k).view.emb y : S1344x1536.Idx) 1).val = col k + (y 1).val := unit_emb1 (dst_inb s k) y
  have d0 : (((srcM s k c).view.emb y : S1536x1536.Idx) 0).val = sbase c k s + (y 0).val :=
    (unit_emb0 (srcOff_inb s k c) y).trans (congrArg (· + (y 0).val) (show srcOff s k c 0 = _ by rw [srcOff_eq]; rfl))
  have d1 : (((srcM s k c).view.emb y : S1536x1536.Idx) 1).val = col k + (y 1).val :=
    (unit_emb1 (srcOff_inb s k c) y).trans (congrArg (· + (y 1).val) (show srcOff s k c 1 = _ by rw [srcOff_eq]; rfl))
  have hm : ((srcM s k c).view.emb y : S1536x1536.Idx) ∈ Sd c k s := by
    rw [← srcM_set]; exact Finset.mem_map_of_mem _ (Finset.mem_univ y)
  have hlt : (((srcM s k c).view.emb y : S1536x1536.Idx) 0).val < 1536 := ((srcM s k c).view.emb y 0).isLt
  refine (hg _ hm).trans ?_
  unfold Rv
  rw [par_par]
  congr 1
  refine (eq_ix2 _).trans (congrArg₂ ix2 (Fin.ext ?_) (Fin.ext ?_))
  · show _ = (_ - RB s + base (par c k s) k (s.val + 1)) % 1536
    rw [e0, d0]
    have : base (par c k s) k (s.val + 1) = sbase c k s := rfl
    rw [this, Nat.add_sub_cancel_left, Nat.add_comm, Nat.mod_eq_of_lt (by omega)]
  · exact d1.trans e1.symm

/-- The reduce-scatter copy of step `s`, chunk `k`, to the device `p`. -/
theorem rsSend_to (c p : Dev nD) (s : Fin 3) (k : Fin 6) (hdev : p = par c k s) (h₁ h₂ h₃) :
    Tr c iprop(glo A B K ∗ OW c (Ow c (cix (tR s) k).val) ∗ outPt c (Sd c k s) fullShare (PS A B s c)
        ∗ rsAny (F := F) (par c k s) (slot s k) ∗ toks (F := F) c (tR s) k)
      (Prog.lift (.enqueueDma (srcM s k c) (.remote (Dev.tc p) (dstM s k) (.dma (sSemE (rsIx s k))))
        (.dma (rSemE (rsIx s k))) h₁ h₂ h₃))
      iprop(OW c (Ow c ((cix (tR s) k).val + 1)) ∗ cred (tallyAt (sCell c (tR s) k) () (amt s))) := by
  have hs : sOf (tR s) = s := sOf_tR s
  have hd : dst c (tR s) k = par c k s := by unfold dst; rw [hs]
  have hlt : (tR s).val < 3 := s.isLt
  have hp₁ : (emp : sProp 𝕄) ⊢ (Rd A B).payload (sCell c (tR s) k) 0 0 := by
    rw [payload_snd]; unfold sndPay; rw [if_pos hlt]
  have hp₂ : ∀ fd : S1344x1536.Idx → F .bf16,
      iprop(((dstM s k).view.loc ((par c k s : Dev nD) : Thread nD τ) ↦[(dstM s k).view.set]{fullShare}
          ((dstM s k).view.write (Elt F) fd ((srcM s k c).view.read (Elt F) (PS A B s c)) Finset.univ))
        ∗ ((srcM s k c).view.loc (c : Thread nD τ) ↦[(srcM s k c).view.set]{fullShare} (PS A B s c)))
      ⊢ (Rd A B).payload (rCell (par c k s) (tR s) k) 0 0 := fun fd => by
    rw [payload_rcv]; unfold rcvPay; rw [if_pos hlt, hs, srcM_set, dstM_set]
    have : dst (par c k s) (tR s) k = c := by unfold dst; rw [hs, par_par]
    rw [this, ← Sd_eq]
    unfold rsPt outAny outPt
    iintro ⟨Hd, Hs⟩
    isplitl [Hd]
    · iapply (Entails.of_eq (pointsTo_congr fun i hi => rs_landed A B c s k fd _ (fun _ _ => rfl) i hi)) $$ Hd
    iexists _; iexact Hs
  subst hdev
  unfold Tr OW outPt rsAny rsPt toks
  rw [hd]
  simp only [Prog.lift]
  iintro ⟨#HG, ⟨%W, HO⟩, Hsrc, ⟨%fd, Hdst⟩, Hts, Htr⟩
  iapply (Rounds.wp_send_landing_pointsTo 𝒱₀ ER (Rd A B) (c : Thread nD τ) none (c' := ((par c k s : Dev nD) : Thread nD τ)) (κ₁ := K (c, some (sI (tR s) k)))
      (κ₂ := K (par c k s, some (rI (tR s) k))) (src := srcM s k c) (dst := dstM s k) (q := fullShare)
      (fs := PS A B s c) (fd := fd) (r₁ := 0) (r₂ := 0) (d₁ := (0 : Fin 3)) (d₂ := (0 : Fin 3))
      (mem_snd A B c (tR s) k) (mem_rcv A B (par c k s) (tR s) k)
      () () (amt s) rfl ((amount_snd A B c (tR s) k 0).trans (congrArg amt hs))
      ((amount_rcv A B (par c k s) (tR s) k 0).trans (congrArg amt hs))
      (O₀ := Ow c (cix (tR s) k).val) (Ow c ((cix (tR s) k).val + 1)) (by rw [Ow_peel, hd, hs]) (W := W)
      (hp₁)
      (hp₂ fd)) $$ [HO Hsrc Hdst Hts Htr]
  · isplitr; · iapply (inv_s A B K c (tR s) k); iexact HG
    isplitr; · iapply (inv_r A B K (par c k s) (tR s) k); iexact HG
    isplitl [Hsrc]; · rw [srcM_set]; iexact Hsrc
    isplitl [Hdst]; · rw [dstM_set]; iexact Hdst
    isplitl [HO]; · iexact HO
    isplitl [Hts]; · iexact Hts
    isplitr; · iapply (re_s A B K c (tR s) k); iexact HG
    isplitl [Htr]; · iexact Htr
    iapply (re_r A B K (par c k s) (tR s) k); iexact HG
  iintro ⟨Hc, HO⟩
  rw [wp_ret]; imodintro
  isplitl [HO]; · iexists _; iexact HO
  iexact Hc

/-- The reduce-scatter copy of step `s`, chunk `k`. -/
theorem rsSend_tr (c : Dev nD) (s : Fin 3) (k : Fin 6) :
    Tr c iprop(glo A B K ∗ OW c (Ow c (cix (tR s) k).val) ∗ outPt c (Sd c k s) fullShare (PS A B s c)
        ∗ rsAny (F := F) (par c k s) (slot s k) ∗ toks (F := F) c (tR s) k)
      (rsSend s k c)
      iprop(OW c (Ow c ((cix (tR s) k).val + 1)) ∗ cred (tallyAt (sCell c (tR s) k) () (amt s))) :=
  rsSend_to A B K c _ s k (Fin.ext (devNo_rs s k c)) _ _ _

/-- The all-gather copy of step `s`, chunk `k`, to the device `p`. -/
theorem agSend_to (c p : Dev nD) (s : Fin 3) (k : Fin 6) (hdev : p = par c k s.rev) (j) (hj : j = cix (tA s) k) (h₁ h₂ h₃) :
    Tr c iprop(glo A B K ∗ OW c (Ow c (cix (tA s) k).val) ∗ outPt c (R c k (s.rev.val + 1)) (lent (tA s)) (Gf A B)
        ∗ outAny (F := F) (par c k s.rev) (R c k (s.rev.val + 1)) ∗ toks (F := F) c (tA s) k)
      (Prog.lift (.enqueueDma (agM s k c) (.remote (Dev.tc p) (agM s k c) (.dma (sSemE j)))
        (.dma (rSemE j)) h₁ h₂ h₃))
      iprop(OW c (Ow c ((cix (tA s) k).val + 1)) ∗ cred (tallyAt (sCell c (tA s) k) () (amt s.rev))) := by
  have hs : sOf (tA s) = s.rev := sOf_tA s
  have hd : dst c (tA s) k = par c k s.rev := by unfold dst; rw [hs]
  have hlt : ¬ (tA s).val < 3 := by show ¬ 3 + s.val < 3; omega
  have hset : (agM s k c).view.set = R c k (s.rev.val + 1) := by
    rw [agM_set]; congr 1; rw [Fin.val_rev]; omega
  have hp₁ : ((agM s k c).view.loc (c : Thread nD τ) ↦[(agM s k c).view.set]{lent (tA s)} (Gf A B) : sProp 𝕄)
      ⊢ (Rd A B).payload (sCell c (tA s) k) 0 0 := by
    rw [payload_snd]; unfold sndPay; rw [if_neg hlt, hs, hset]; exact .rfl
  have hp₂ : ∀ fd : S1536x1536.Idx → F .bf16,
      ((agM s k c).view.loc ((par c k s.rev : Dev nD) : Thread nD τ) ↦[(agM s k c).view.set]{fullShare}
          ((agM s k c).view.write (Elt F) fd ((agM s k c).view.read (Elt F) (Gf A B)) Finset.univ) : sProp 𝕄)
      ⊢ (Rd A B).payload (rCell (par c k s.rev) (tA s) k) 0 0 := fun fd => by
    rw [payload_rcv]; unfold rcvPay; rw [if_neg hlt, hs, hset, Sd_par]
    refine Entails.of_eq (pointsTo_congr fun i hi => ?_)
    rw [← hset] at hi
    obtain ⟨y, -, rfl⟩ := Finset.mem_map.mp hi
    exact View.write_emb_of_mem (Val := Elt F) (v := (agM s k c).view) fd _ (Finset.mem_univ y)
  subst hdev hj
  unfold Tr OW outAny outPt toks
  rw [hd]
  simp only [Prog.lift]
  iintro ⟨#HG, ⟨%W, HO⟩, Hsrc, ⟨%fd, Hdst⟩, Hts, Htr⟩
  iapply (Rounds.wp_send_pointsTo 𝒱₀ ER (Rd A B) (c : Thread nD τ) none (c' := ((par c k s.rev : Dev nD) : Thread nD τ)) (κ₁ := K (c, some (sI (tA s) k)))
      (κ₂ := K (par c k s.rev, some (rI (tA s) k))) (src := agM s k c) (dst := agM s k c) (q := lent (tA s))
      (fs := Gf A B) (fd := fd) (r₁ := 0) (r₂ := 0) (d₁ := (0 : Fin 3)) (d₂ := (0 : Fin 3))
      (mem_snd A B c (tA s) k) (mem_rcv A B (par c k s.rev) (tA s) k)
      () () (amt s.rev) rfl ((amount_snd A B c (tA s) k 0).trans (congrArg amt hs))
      ((amount_rcv A B (par c k s.rev) (tA s) k 0).trans (congrArg amt hs))
      (O₀ := Ow c (cix (tA s) k).val) (Ow c ((cix (tA s) k).val + 1)) (by rw [Ow_peel, hd, hs]) (W := W)
      hp₁ (hp₂ fd)) $$ [HO Hsrc Hdst Hts Htr]
  · isplitr; · iapply (inv_s A B K c (tA s) k); iexact HG
    isplitr; · iapply (inv_r A B K (par c k s.rev) (tA s) k); iexact HG
    isplitl [Hsrc]; · rw [hset]; iexact Hsrc
    isplitl [Hdst]; · rw [hset]; iexact Hdst
    isplitl [HO]; · iexact HO
    isplitl [Hts]; · iexact Hts
    isplitr; · iapply (re_s A B K c (tA s) k); iexact HG
    isplitl [Htr]; · iexact Htr
    iapply (re_r A B K (par c k s.rev) (tA s) k); iexact HG
  iintro ⟨Hc, HO⟩
  rw [wp_ret]; imodintro
  isplitl [HO]; · iexists _; iexact HO
  iexact Hc

/-- The all-gather copy of step `s`, chunk `k`. -/
theorem agSend_tr (c : Dev nD) (s : Fin 3) (k : Fin 6) :
    Tr c iprop(glo A B K ∗ OW c (Ow c (cix (tA s) k).val) ∗ outPt c (R c k (s.rev.val + 1)) (lent (tA s)) (Gf A B)
        ∗ outAny (F := F) (par c k s.rev) (R c k (s.rev.val + 1)) ∗ toks (F := F) c (tA s) k)
      (agSend s k c)
      iprop(OW c (Ow c ((cix (tA s) k).val + 1)) ∗ cred (tallyAt (sCell c (tA s) k) () (amt s.rev))) :=
  agSend_to A B K c ⟨devNo true s k c, devNo_lt _ _ _ _⟩ s k (Fin.ext (devNo_ag s k c)) _ (cix_tA s k) _ _ _

/-! ## The handshake -/

/-- A signal of the handshake, to the partner for bit `d`, with the parts of the receive buffer it will write. -/
theorem sig_tr (c p : Dev nD) (d : Fin 3) (hp : p = peer c d) (O : CellTallies nD τ sig Unit) :
    Tr c iprop(glo A B K ∗ OW c (O + tallyAt (barCell (peer c d)) () 1) ∗ dutyTok ER (barCell (peer c d)) 0 d
        ∗ barPay (F := F) (peer c d) d)
      (semSignalWord p barSem 1#32) (OW c O) := by
  subst hp
  unfold Tr OW
  simp only [semSignalWord, Prog.lift]
  iintro ⟨#HG, ⟨%W, HO⟩, Ht, Hp⟩
  iapply (Rounds.wp_signal 𝒱₀ ER (Rd A B) (c : Thread nD τ) none (dst := ((peer c d : Dev nD) : Thread nD τ))
      (κ := K (peer c d, none)) (d := d) (by rw [duties_bar]; exact Finset.mem_univ _)
      ((amount_bar A B (peer c d) d).trans (by decide)) () O rfl) $$ [HO Ht Hp]
  · isplitr; · iapply (inv_b A B K (peer c d)); iexact HG
    isplitl [HO]; · iexact HO
    isplitl [Ht]; · iexact Ht
    isplitl [Hp]; · rw [payload_bar]; iexact Hp
    iapply (re_b A B K (peer c d)); iexact HG
  iintro HO
  rw [wp_ret]; imodintro
  iexists _; iexact HO

/-- The wait of the handshake: the partners' receive buffers come with it. -/
theorem bar_tr (c : Dev nD) :
    Tr c iprop(glo A B K ∗ OW c (Ow c 0) ∗ cred (tallyAt (barCell c) () 3) ∗ atPos ER (barCell c) 0 ∅ 0)
      (semWaitWord barSem 3#32)
      iprop(OW c (Ow c 0) ∗ atPos ER (barCell c) (0 + 1) ∅ 0 ∗ bigSep Finset.univ fun d => barPay (F := F) c d) := by
  unfold Tr OW
  simp only [semWaitWord, Prog.lift]
  iintro ⟨#HG, ⟨%W, HO⟩, Hc, Hat⟩
  iapply (Rounds.wp_wait_rest_token 𝒱₀ ER (Rd A B) (c : Thread nD τ) none (κ := K (c, none))
      (wpE_semWait_eq 𝒱₀ (c : Thread nD τ) none Set.univ) (Set.mem_univ _) () (O := Ow c 0) (W := W) (R := 0) (m := 0) (T := ∅)
      (by rw [expect_bar]; decide)) $$ [Hc HO Hat]
  · isplitr; · iapply (inv_b A B K c); iexact HG
    isplitl [Hc]; · iexact Hc
    isplitl [HO]; · iexact HO
    isplitr; · iapply (mayWait_bar c); iapply (glo_lev A B K); iexact HG
    iexact Hat
  iintro ⟨HO, Hat, -, Hpay⟩
  rw [wp_ret]; imodintro
  isplitl [HO]; · iexists _; iexact HO
  isplitl [Hat]; · iexact Hat
  iapply (Entails.of_eq (rest_bar A B c)) $$ Hpay

omit [FloatOps F] in
theorem bigSep_three (Φ : Fin 3 → sProp 𝕄) : bigSep Finset.univ Φ = iprop(Φ 0 ∗ Φ 1 ∗ Φ 2) :=
  bigSep_univ_eq_bigSepL [0, 1, 2] (by decide) (by decide) Φ

/-- The handshake. -/
theorem handshake_tr (c : Dev nD) :
    Tr c iprop(glo A B K ∗ OW c (O₀ c) ∗ (bigSep Finset.univ fun d => dutyTok ER (barCell (peer c d)) 0 d)
        ∗ (bigSep Finset.univ fun d => barPay (F := F) (peer c d) d)
        ∗ cred (tallyAt (barCell c) () 3) ∗ atPos ER (barCell c) 0 ∅ 0)
      (handshake c)
      iprop(OW c (Ow c 0) ∗ atPos ER (barCell c) (0 + 1) ∅ 0 ∗ bigSep Finset.univ fun d => barPay (F := F) c d) := by
  rw [bigSep_three, bigSep_three]
  unfold handshake
  have h1 : (⟨k0_dev1 c, k0_dev1_lt c⟩ : Dev nD) = peer c 0 := Fin.ext (dev1_eq c)
  have h2 : (⟨k0_dev2 c, k0_dev2_lt c⟩ : Dev nD) = peer c 1 := Fin.ext (dev2_eq c)
  have h3 : (⟨k0_dev3 c, k0_dev3_lt c⟩ : Dev nD) = peer c 2 := Fin.ext (dev3_eq c)
  refine Tr.pre (P' := iprop(iprop(glo A B K ∗ OW c (O₂ c + tallyAt (barCell (peer c 0)) () 1) ∗ dutyTok ER (barCell (peer c 0)) 0 (0 : Fin 3)
        ∗ barPay (F := F) (peer c 0) 0)
      ∗ glo A B K ∗ dutyTok ER (barCell (peer c 1)) 0 (1 : Fin 3) ∗ barPay (F := F) (peer c 1) 1
      ∗ dutyTok ER (barCell (peer c 2)) 0 (2 : Fin 3) ∗ barPay (F := F) (peer c 2) 2
      ∗ cred (tallyAt (barCell c) () 3) ∗ atPos ER (barCell c) 0 ∅ 0)) ?_
    (((sig_tr A B K c _ 0 h1 (O₂ c)).frame _).seq ?_)
  · iintro ⟨#HG, HO, ⟨T0, T1, T2⟩, ⟨B0, B1, B2⟩, Hc, Hat⟩
    isplitl [HO T0 B0]
    · isplitr; · iexact HG
      isplitl [HO]; · iexact HO
      isplitl [T0] <;> iassumption
    isplitr; · iexact HG
    isplitl [T1]; · iexact T1
    isplitl [B1]; · iexact B1
    isplitl [T2]; · iexact T2
    isplitl [B2]; · iexact B2
    isplitl [Hc] <;> iassumption
  refine Tr.pre (P' := iprop(iprop(glo A B K ∗ OW c (O₁ c + tallyAt (barCell (peer c 1)) () 1) ∗ dutyTok ER (barCell (peer c 1)) 0 (1 : Fin 3)
        ∗ barPay (F := F) (peer c 1) 1)
      ∗ glo A B K ∗ dutyTok ER (barCell (peer c 2)) 0 (2 : Fin 3) ∗ barPay (F := F) (peer c 2) 2
      ∗ cred (tallyAt (barCell c) () 3) ∗ atPos ER (barCell c) 0 ∅ 0)) ?_
    (((sig_tr A B K c _ 1 h2 (O₁ c)).frame _).seq ?_)
  · iintro ⟨HO, #HG, T1, B1, T2, B2, Hc, Hat⟩
    isplitl [HO T1 B1]
    · isplitr; · iexact HG
      isplitl [HO]; · iexact HO
      isplitl [T1] <;> iassumption
    isplitr; · iexact HG
    isplitl [T2]; · iexact T2
    isplitl [B2]; · iexact B2
    isplitl [Hc] <;> iassumption
  refine Tr.pre (P' := iprop(iprop(glo A B K ∗ OW c (Ow c 0 + tallyAt (barCell (peer c 2)) () 1) ∗ dutyTok ER (barCell (peer c 2)) 0 (2 : Fin 3)
        ∗ barPay (F := F) (peer c 2) 2)
      ∗ glo A B K ∗ cred (tallyAt (barCell c) () 3) ∗ atPos ER (barCell c) 0 ∅ 0)) ?_
    (((sig_tr A B K c _ 2 h3 (Ow c 0)).frame _).seq ?_)
  · iintro ⟨HO, #HG, T2, B2, Hc, Hat⟩
    isplitl [HO T2 B2]
    · isplitr; · iexact HG
      isplitl [HO]; · iexact HO
      isplitl [T2] <;> iassumption
    isplitr; · iexact HG
    isplitl [Hc] <;> iassumption
  refine (bar_tr A B K c).pre ?_
  iintro ⟨HO, #HG, Hc, Hat⟩
  isplitr; · iexact HG
  isplitl [HO]; · iexact HO
  isplitl [Hc] <;> iassumption

end

end Cert.KProof
-- ==== Proof.Chunks.lean ====
/-
The passages of one chunk: product and first copy, sum and next copy, activation and first copy back, the copies back.
-/
module

public import proofs.«01_k».proof.Proof.Comm

@[expose] public section

noncomputable section

namespace Cert.KProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Regions, split and joined -/

omit [FloatOps F] in
/-- A part of the result is its kept half and the half sent on. -/
theorem out_split (c : Dev nD) (k : Fin 6) (s : Fin 3) (q : PosShare TreeShare) (g) :
    outPt (F := F) c (R c k s.val) q g ⊣⊢ iprop(outPt c (R c k (s.val + 1)) q g ∗ outPt c (Sd c k s) q g) := by
  unfold outPt
  rw [R_split]
  exact pointsTo_union (R_disj c k s)

omit [FloatOps F] in
theorem out_share (c : Dev nD) (X : Finset S1536x1536.Idx) (q : PosShare TreeShare) (g) :
    outPt (F := F) c X q g ⊣⊢ iprop(outPt c X q.left g ∗ outPt c X q.right g) :=
  pointsTo_share (PosShare.mem_left_op_right q)

omit [FloatOps F] in
theorem outAny_intro (c : Dev nD) (X : Finset S1536x1536.Idx) (g) : outPt (F := F) c X fullShare g ⊢ outAny c X := by
  unfold outAny; iintro H; iexists g; iexact H
omit [FloatOps F] in
theorem rsAny_intro (c : Dev nD) (X : Finset S1344x1536.Idx) (g) : rsPt (F := F) c X fullShare g ⊢ rsAny c X := by
  unfold rsAny; iintro H; iexists g; iexact H

theorem stSend_set (c k) : Sd c k 0 = (oR 0 (stSend k c) (stSend_inb k c)).set := (unit_set (stSend_eq k c) _).symm
theorem stKeep_set (c k) : R c k 1 = (oR 0 (stKeep k c) (stKeep_inb k c)).set := (unit_set (stKeep_eq k c) _).symm
theorem addOff_set (c k e) : Sd c k e.succ = (oR e.succ (addOff e k c) (addOff_inb e k c)).set :=
  (unit_set (addOff_eq e k c) _).symm
theorem keepOff_set (c k) (e : Fin 2) : R c k (e.val + 2) = (oR e.succ (keepOff e k c) (keepOff_inb e k c)).set := by
  refine Eq.trans ?_ (unit_set (keepOff_eq e k c) _).symm
  unfold R; rw [show e.val + 2 = e.succ.val + 1 from rfl, HT_succ]

section
variable (A : Dev nD → S1536x768.Idx → F .bf16) (B : Dev nD → S768x1536.Idx → F .bf16)
  (K : Dev nD × Option (Fin 72) → ℕ)

/-- What the products run on: what is owed from copy `n` on, the operands and the scratch copies. -/
def I0 (c : Dev nD) (n : ℕ) : sProp 𝕄 :=
  iprop(OW (F := F) c (Ow c n) ∗ a2Pt c (A c) ∗ bPt c (B c) ∗ ∃ f, b2Pt (F := F) c f)

/-- Chunk `k`: its product, of which the half sent on is on its way. -/
theorem chunk0_tr (c : Dev nD) (k : Fin 6) :
    Tr c iprop(glo A B K ∗ I0 A B c k.val ∗ outAny (F := F) c (R c k 0) ∗ rsAny (F := F) (par c k 0) (slot 0 k) ∗ toks (F := F) c 0 k)
      (chunk0 c k)
      iprop(I0 A B c (k.val + 1) ∗ outPt c (R c k 1) fullShare (P0 A B c) ∗ cred (tallyAt (sCell c 0 k) () (amt 0))) := by
  have e0 : (cix (tR 0) k).val = k.val := by show 6 * 0 + k.val = k.val; omega
  unfold Tr chunk0 I0 outAny
  iintro ⟨#HG, ⟨HO, Ha, Hb, ⟨%f, H2⟩⟩, ⟨%g, Hout⟩, Hrs, Ht⟩
  ihave Hs := (show outPt (F := F) c (R c k 0) fullShare g ⊢ iprop(outPt c (R c k 1) fullShare g ∗ outPt c (Sd c k 0) fullShare g)
    from (out_split (F := F) c k 0 fullShare g).1) $$ Hout
  icases Hs with ⟨HR, HS⟩
  iapply (Tr.step (copyB_tr c k (B c) f)) $$ [Hb H2]
  · isplitl [Hb] <;> iassumption
  iintro ⟨Hb, ⟨%f', %hf, H2⟩⟩
  iapply (Tr.step (dotHalf_tr c k (rowSend k c) (rowSend_inb k c) (stSend k c) (stSend_inb k c) (stSend_pk k c) (A c) f'
    (f := g) (g' := P0 A B c) (stSend_set c k)
    (dot_block A B c k _ (base_mod c k).2 _ _ _ _ (rowSend_eq k c) (stSend_eq k c) f' hf))) $$ [Ha H2 HS]
  · isplitl [Ha]; · iexact Ha
    isplitl [H2] <;> iassumption
  iintro ⟨Ha, H2, HS⟩
  iapply (Tr.step (rsSend_tr A B K c 0 k)) $$ [HO HS Hrs Ht]
  · isplitr; · iexact HG
    isplitl [HO]; · rw [e0]; iexact HO
    isplitl [HS]; · iexact HS
    isplitl [Hrs]; · iexact Hrs
    iexact Ht
  iintro ⟨HO, Hc⟩
  iapply (Tr.last (dotHalf_tr c k (rowKeep k c) (rowKeep_inb k c) (stKeep k c) (stKeep_inb k c) (stKeep_pk k c) (A c) f'
    (f := g) (g' := P0 A B c) (stKeep_set c k)
    (dot_block A B c k _ (base_mod c k).1 _ _ _ _ (rowKeep_eq k c) (stKeep_eq k c) f' hf))) $$ [Ha H2 HR]
  · isplitl [Ha]; · iexact Ha
    isplitl [H2] <;> iassumption
  iintro ⟨Ha, H2, HR⟩
  isplitl [HO Ha Hb H2]
  · isplitl [HO]; · rw [e0]; iexact HO
    isplitl [Ha]; · iexact Ha
    isplitl [Hb]; · iexact Hb
    iexists f'; iexact H2
  isplitl [HR] <;> iassumption

/-- Chunk `k` after arrival `e`: the sums, of which the half sent on is on its way. -/
theorem chunk1_tr (c : Dev nD) (e : Fin 2) (k : Fin 6) :
    Tr c iprop(glo A B K ∗ OW (F := F) c (Ow c (6 * (tR e.succ).val + k.val))
        ∗ outPt c (R c k (e.val + 1)) fullShare (PS A B e.castSucc c) ∗ rcvW (F := F) c (tR e.castSucc) k
        ∗ rsAny (F := F) (par c k e.succ) (slot e.succ k) ∗ toks (F := F) c (tR e.succ) k)
      (chunk1 c e k)
      iprop(OW (F := F) c (Ow c (6 * (tR e.succ).val + (k.val + 1)))
        ∗ outPt c (R c k (e.val + 2)) fullShare (PS A B e.succ c) ∗ cred (tallyAt (sCell c (tR e.succ) k) () (amt e.succ))
        ∗ atPos ER (rCell c (tR e.castSucc) k) (0 + 1) ∅ 0 ∗ rsAny (F := F) c (slot e.castSucc k)
        ∗ outAny (F := F) (par c k e.castSucc) (R c k (e.val + 1))) := by
  have hs : sOf (tR e.castSucc) = e.castSucc := sOf_tR _
  have hlt : (tR e.castSucc).val < 3 := e.castSucc.isLt
  have hd : dst c (tR e.castSucc) k = par c k e.castSucc := by unfold dst; rw [hs]
  obtain ⟨l1, l2, l3, l4⟩ := half_le c e k
  unfold Tr chunk1
  iintro ⟨#HG, HO, Hout, Hw, Hrs, Ht⟩
  iapply (Tr.step (rcv_tr A B K c (tR e.castSucc) k (6 * (tR e.succ).val + k.val)
    (by show 6 * e.val + k.val < 6 * (e.val + 1) + k.val; omega) (srcM e.castSucc k c) (dstM e.castSucc k) _ _
    (by rw [hs]))) $$ [HO Hw]
  · isplitr; · iexact HG
    isplitl [HO] <;> iassumption
  unfold rcvPay
  rw [if_pos hlt, hs, hd]
  iintro ⟨HO, Hat, Hin, Hback⟩
  ihave Hs := (show outPt (F := F) c (R c k (e.val + 1)) fullShare (PS A B e.castSucc c)
    ⊢ iprop(outPt c (R c k (e.val + 2)) fullShare (PS A B e.castSucc c) ∗ outPt c (Sd c k e.succ) fullShare (PS A B e.castSucc c))
    from (out_split (F := F) c k e.succ fullShare (PS A B e.castSucc c)).1) $$ Hout
  icases Hs with ⟨HR, HS⟩
  iapply (Tr.step (addHalf_tr c e.succ (addOff e k c) (addRecv e k c) (addOff_inb e k c) (addRecv_inb e k c) (addOff_pk e k c)
    (addPay e.succ) (Y := slot e.castSucc k) (q := fullShare) (g := PS A B e.castSucc c) (g' := PS A B e.succ c)
    (h := Rv A B c e.castSucc k) (addOff_set c k e)
    (rR_sub e.castSucc e.succ k _ _ _ (addRecv_eq e k c) (by omega))
    (add_block A B c e k _ _ _ _ _ l1 (addRecv_eq e k c) (addOff_eq e k c)))) $$ [HS Hin]
  · isplitl [HS] <;> iassumption
  iintro ⟨HS, Hin⟩
  iapply (Tr.step (rsSend_tr A B K c e.succ k)) $$ [HO HS Hrs Ht]
  · isplitr; · iexact HG
    isplitl [HO]; · iexact HO
    isplitl [HS]; · iexact HS
    isplitl [Hrs]; · iexact Hrs
    iexact Ht
  iintro ⟨HO, Hc⟩
  iapply (Tr.last (addHalf_tr c e.succ (keepOff e k c) (keepRecv e k c) (keepOff_inb e k c) (keepRecv_inb e k c) (keepOff_pk e k c)
    (addPay e.succ) (Y := slot e.castSucc k) (q := fullShare) (g := PS A B e.castSucc c) (g' := PS A B e.succ c)
    (h := Rv A B c e.castSucc k) (keepOff_set c k e)
    (rR_sub e.castSucc e.succ k _ _ _ (keepRecv_eq e k c) (by omega))
    (add_block A B c e k _ _ _ _ _ l2 (keepRecv_eq e k c) (keepOff_eq e k c)))) $$ [HR Hin]
  · isplitl [HR]; · iexact HR
    iexact Hin
  iintro ⟨HR, Hin⟩
  isplitl [HO]; · iexact HO
  isplitl [HR]; · iexact HR
  isplitl [Hc]; · iexact Hc
  isplitl [Hat]; · iexact Hat
  isplitl [Hin]; · iapply (rsAny_intro (F := F) c _ _); iexact Hin
  iexact Hback

/-- Chunk `k` after the last arrival: the finished block, of which a share is lent to the first copy back. -/
theorem chunk2_tr (c : Dev nD) (k : Fin 6) :
    Tr c iprop(glo A B K ∗ OW (F := F) c (Ow c (6 * (tA 0).val + k.val))
        ∗ outPt c (R c k 3) fullShare (PS A B 2 c) ∗ rcvW (F := F) c (tR 2) k ∗ toks (F := F) c (tA 0) k)
      (chunk2 c k)
      iprop(OW (F := F) c (Ow c (6 * (tA 0).val + (k.val + 1)))
        ∗ outPt c (R c k 3) (held 1) (Gf A B) ∗ cred (tallyAt (sCell c (tA 0) k) () (amt 2))
        ∗ atPos ER (rCell c (tR 2) k) (0 + 1) ∅ 0 ∗ rsAny (F := F) c (slot 2 k)) := by
  have hs : sOf (tR 2) = 2 := sOf_tR _
  have hlt : (tR 2).val < 3 := by decide
  have hd : dst c (tR 2) k = par c k 2 := by unfold dst; rw [hs]
  unfold Tr chunk2
  iintro ⟨#HG, HO, Hout, Hw, Ht⟩
  iapply (Tr.step (rcv_tr A B K c (tR 2) k (6 * (tA 0).val + k.val)
    (by show 6 * 2 + k.val < 6 * (3 + 0) + k.val; omega) (srcM 2 k c) (dstM 2 k) _ _
    (by rw [hs]))) $$ [HO Hw]
  · isplitr; · iexact HG
    isplitl [HO] <;> iassumption
  unfold rcvPay
  rw [if_pos hlt, hs, hd]
  iintro ⟨HO, Hat, Hin, Hback⟩
  iapply (Tr.step (addHalf_tr c 2 (keepOff 1 k c) ![RB 2, col k] (keepOff_inb 1 k c) (dst_inb 2 k) (keepOff_pk 1 k c)
    geluPay (Y := slot 2 k) (q := fullShare) (g := PS A B 2 c) (g' := Gf A B)
    (h := Rv A B c 2 k) (keepOff_set c k 1)
    (rR_sub 2 2 k 0 _ _ rfl (by omega))
    (gelu_block A B c k _ _ (keepOff_eq 1 k c)))) $$ [Hout Hin]
  · isplitl [Hout]; · iexact Hout
    iexact Hin
  iintro ⟨Hout, Hin⟩
  ihave Hs := (show outPt (F := F) c (R c k ((1 : Fin 2).val + 2)) fullShare (Gf A B)
    ⊢ iprop(outPt c (R c k 3) (held 1) (Gf A B) ∗ outPt c (R c k 3) (lent (tA 0)) (Gf A B))
    from (out_share (F := F) c (R c k 3) fullShare (Gf A B)).1) $$ Hout
  icases Hs with ⟨HL, HR⟩
  iapply (Tr.last (agSend_tr A B K c 0 k)) $$ [HO HR Hback Ht]
  · isplitr; · iexact HG
    isplitl [HO]; · iexact HO
    isplitl [HR]; · iexact HR
    isplitl [Hback]; · iexact Hback
    iexact Ht
  iintro ⟨HO, Hc⟩
  isplitl [HO]; · iexact HO
  isplitl [HL]; · iexact HL
  isplitl [Hc]; · iexact Hc
  isplitl [Hat]; · iexact Hat
  iapply (rsAny_intro (F := F) c _ _); iexact Hin

/-! ## The copies back -/

/-- The shares of the block of arrival `e` that are not lent on. -/
def rest (c : Dev nD) (e : Fin 2) (k : Fin 6) : sProp 𝕄 :=
  match e with
  | 0 => outPt c (Sd c k 2) (held 0).right (Gf A B)
  | 1 => iprop(outPt c (Sd c k 1) (held 0).right (Gf A B) ∗ outPt c (Sd c k 1) (held 1).right (Gf A B))

/-- What is held of a block and the block that arrived are the larger block, to be lent on. -/
theorem lend (c : Dev nD) (e : Fin 2) (k : Fin 6) :
    iprop(outPt c (R c k (e.castSucc.rev.val + 1)) (held (e.val + 1)) (Gf A B) ∗ outPt c (Sd c k e.castSucc.rev) fullShare (Gf A B))
      ⊢ iprop(outPt c (R c k (e.succ.rev.val + 1)) (lent (tA e.succ)) (Gf A B)
        ∗ outPt c (R c k (e.succ.rev.val + 1)) (held (e.val + 2)) (Gf A B) ∗ rest A B c e k) := by
  match e with
  | 0 =>
    iintro ⟨HR, HS⟩
    ihave HS := (out_share (F := F) c _ _ _).1 $$ HS
    icases HS with ⟨H1, H0⟩
    ihave HR := (out_split (F := F) c k 2 (held 1) (Gf A B)).2 $$ [HR H1]
    · isplitl [HR]; · iexact HR
      iexact H1
    ihave HR := (out_share (F := F) c _ _ _).1 $$ HR
    icases HR with ⟨HL, HR⟩
    isplitl [HR]; · iexact HR
    isplitl [HL]; · iexact HL
    iapply (show outPt c (Sd c k 2) (held 0).right (Gf A B) ⊢ rest A B c 0 k from .rfl)
    iexact H0
  | 1 =>
    iintro ⟨HR, HS⟩
    ihave HS := (out_share (F := F) c _ _ _).1 $$ HS
    icases HS with ⟨H1, H0⟩
    ihave H1 := (out_share (F := F) c _ _ _).1 $$ H1
    icases H1 with ⟨H2, H1⟩
    ihave HR := (out_split (F := F) c k 1 (held 2) (Gf A B)).2 $$ [HR H2]
    · isplitl [HR]; · iexact HR
      iexact H2
    ihave HR := (out_share (F := F) c _ _ _).1 $$ HR
    icases HR with ⟨HL, HR⟩
    isplitl [HR]; · iexact HR
    isplitl [HL]; · iexact HL
    iapply (show iprop(outPt c (Sd c k 1) (held 0).right (Gf A B) ∗ outPt c (Sd c k 1) (held 1).right (Gf A B))
      ⊢ rest A B c 1 k from .rfl)
    isplitl [H0]; · iexact H0
    iexact H1

/-- Chunk `k` after arrival `e` of the all-gather: the larger block, of which a share is lent to the next copy. -/
theorem chunk3_tr (c : Dev nD) (e : Fin 2) (k : Fin 6) :
    Tr c iprop(glo A B K ∗ OW (F := F) c (Ow c (6 * (tA e.succ).val + k.val))
        ∗ outPt c (R c k (e.castSucc.rev.val + 1)) (held (e.val + 1)) (Gf A B) ∗ rcvW (F := F) c (tA e.castSucc) k
        ∗ outAny (F := F) (par c k e.succ.rev) (R c k (e.succ.rev.val + 1)) ∗ toks (F := F) c (tA e.succ) k)
      (chunk3 c e k)
      iprop(OW (F := F) c (Ow c (6 * (tA e.succ).val + (k.val + 1)))
        ∗ outPt c (R c k (e.succ.rev.val + 1)) (held (e.val + 2)) (Gf A B) ∗ rest A B c e k
        ∗ cred (tallyAt (sCell c (tA e.succ) k) () (amt e.succ.rev))
        ∗ atPos ER (rCell c (tA e.castSucc) k) (0 + 1) ∅ 0) := by
  have hs : sOf (tA e.castSucc) = e.castSucc.rev := sOf_tA _
  have hlt : ¬ (tA e.castSucc).val < 3 := by show ¬ 3 + e.val < 3; omega
  have hr := rcv_tr A B K c (tA e.castSucc) k (6 * (tA e.succ).val + k.val)
    (by show 6 * (3 + e.val) + k.val < 6 * (3 + (e.val + 1)) + k.val; omega) (agM e.castSucc k c) (agM e.castSucc k c)
    ((Memref.isWhole_whole _).wordExact_slice rfl _ (agOff_ww e.castSucc k c))
    ((Memref.isWhole_whole _).wordExact_slice rfl _ (agOff_ww e.castSucc k c)) (by rw [hs])
  rw [← cix_tA] at hr
  unfold Tr chunk3
  iintro ⟨#HG, HO, Hout, Hw, Hback, Ht⟩
  iapply (Tr.step hr) $$ [HO Hw]
  · isplitr; · iexact HG
    isplitl [HO] <;> iassumption
  unfold rcvPay
  rw [if_neg hlt, hs]
  iintro ⟨HO, Hat, Hin⟩
  ihave HS := (lend A B c e k) $$ [Hout Hin]
  · isplitl [Hout] <;> iassumption
  icases HS with ⟨HR, HL, Hrest⟩
  iapply (Tr.last (agSend_tr A B K c e.succ k)) $$ [HO HR Hback Ht]
  · isplitr; · iexact HG
    isplitl [HO]; · iexact HO
    isplitl [HR]; · iexact HR
    isplitl [Hback]; · iexact Hback
    iexact Ht
  iintro ⟨HO, Hc⟩
  isplitl [HO]; · iexact HO
  isplitl [HL]; · iexact HL
  isplitl [Hrest]; · iexact Hrest
  isplitl [Hc]; · iexact Hc
  iexact Hat

/-- The last arrival of chunk `k`. -/
theorem last_tr (c : Dev nD) (k : Fin 6) :
    Tr c iprop(glo A B K ∗ OW (F := F) c (Ow c 36) ∗ rcvW (F := F) c (tA 2) k) (agWait 2 k c)
      iprop(OW (F := F) c (Ow c 36) ∗ atPos ER (rCell c (tA 2) k) (0 + 1) ∅ 0 ∗ outPt c (Sd c k 0) fullShare (Gf A B)) := by
  have hr := rcv_tr A B K c (tA 2) k 36 (cix (tA 2) k).isLt (agM 2 k c) (agM 2 k c)
    ((Memref.isWhole_whole _).wordExact_slice rfl _ (agOff_ww 2 k c))
    ((Memref.isWhole_whole _).wordExact_slice rfl _ (agOff_ww 2 k c)) rfl
  rw [← cix_tA] at hr
  exact hr

/-- The departure of the reduce-scatter copy `(s, k)`. -/
theorem rsDone_tr (c : Dev nD) (s : Fin 3) (k : Fin 6) :
    Tr c iprop(glo A B K ∗ OW (F := F) c 0 ∗ sndW (F := F) c (tR s) k) (rsDone s k c)
      iprop(OW (F := F) c 0 ∗ atPos ER (sCell c (tR s) k) (0 + 1) ∅ 0) := by
  refine (snd_tr A B K c (tR s) k (dstM s k) (srcM s k c) _ _ (by rw [sOf_tR])).post ?_
  iintro ⟨HO, H, -⟩
  isplitl [HO] <;> iassumption

/-- The departure of the all-gather copy `(s, k)`: what was lent is back. -/
theorem agDone_tr (c : Dev nD) (s : Fin 3) (k : Fin 6) :
    Tr c iprop(glo A B K ∗ OW (F := F) c 0 ∗ sndW (F := F) c (tA s) k) (agDone s k c)
      iprop(OW (F := F) c 0 ∗ atPos ER (sCell c (tA s) k) (0 + 1) ∅ 0
        ∗ outPt c (R c k (s.rev.val + 1)) (lent (tA s)) (Gf A B)) := by
  have hlt : ¬ (tA s).val < 3 := by show ¬ 3 + s.val < 3; omega
  have hr := snd_tr A B K c (tA s) k (agM s k c) (agM s k c)
    ((Memref.isWhole_whole _).wordExact_slice rfl _ (agOff_ww s k c))
    ((Memref.isWhole_whole _).wordExact_slice rfl _ (agOff_ww s k c)) (by rw [sOf_tA])
  unfold sndPay at hr
  rw [if_neg hlt, sOf_tA, ← cix_tA] at hr
  exact hr

end

end Cert.KProof
-- ==== Proof.Regions.lean ====
/-
The buffers cut into the regions the chunks use, and put together again.
-/
module

public import proofs.«01_k».proof.Proof.Chunks

@[expose] public section

noncomputable section

namespace Cert.KProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Parts of a buffer -/

omit [FloatOps F] in
/-- A buffer's elements are those of its disjoint parts. -/
theorem pt_parts {ℓ : Loc nD τ sig} {T : Type} (S : Finset T) (P : T → Finset (Idx ℓ)) (X : Finset (Idx ℓ))
    (hX : ∀ i, i ∈ X ↔ ∃ t ∈ S, i ∈ P t) (h : ∀ t ∈ S, ∀ t' ∈ S, t ≠ t' → Disjoint (P t) (P t'))
    (q : PosShare TreeShare) (g : Buf (Elt F) ℓ) :
    (ℓ ↦[X]{q} g : sProp 𝕄) = bigSep S fun t => ℓ ↦[P t]{q} g := by
  classical
  rw [show X = S.biUnion P by ext i; rw [hX, Finset.mem_biUnion]]
  exact pointsTo_biUnion S P h

omit [FloatOps F] in
/-- Disjoint parts, whatever they hold, are the buffer. -/
theorem pt_join {ℓ : Loc nD τ sig} {T : Type} (S : Finset T) (P : T → Finset (Idx ℓ)) (X : Finset (Idx ℓ))
    (hX : ∀ i, i ∈ X ↔ ∃ t ∈ S, i ∈ P t) (h : ∀ t ∈ S, ∀ t' ∈ S, t ≠ t' → Disjoint (P t) (P t'))
    (q : PosShare TreeShare) (gs : T → Buf (Elt F) ℓ) (g₀ : Buf (Elt F) ℓ) :
    (bigSep S fun t => (ℓ ↦[P t]{q} gs t : sProp 𝕄)) ⊢ iprop(∃ g, ℓ ↦[X]{q} g) := by
  classical
  rw [show X = S.biUnion P by ext i; rw [hX, Finset.mem_biUnion]]
  iintro H
  ihave H := (pointsTo_biUnion_join S P gs g₀ h) $$ H
  icases H with ⟨%g, -, H⟩
  iexists g; iexact H

theorem Ck_parts (i : S1536x1536.Idx) : i ∈ (Finset.univ : Finset S1536x1536.Idx) ↔ ∃ k ∈ Finset.univ, i ∈ Ck k :=
  ⟨fun h => Finset.mem_biUnion.mp ((Finset.ext_iff.mp Ck_cover i).mpr h), fun _ => Finset.mem_univ i⟩
theorem slot_parts (i : S1344x1536.Idx) : i ∈ (Finset.univ : Finset S1344x1536.Idx)
    ↔ ∃ x ∈ (Finset.univ : Finset (Fin 3 × Fin 6)), i ∈ slot x.1 x.2 :=
  ⟨fun h => Finset.mem_biUnion.mp ((Finset.ext_iff.mp slot_cover i).mpr h), fun _ => Finset.mem_univ i⟩

/-! ## The result, by chunks -/

omit [FloatOps F] in
/-- The whole result is its six chunks. -/
theorem out_chunks (c : Dev nD) (q : PosShare TreeShare) (g : S1536x1536.Idx → F .bf16) :
    outPt (F := F) c Finset.univ q g = bigSep Finset.univ fun k => outPt c (Ck k) q g :=
  pt_parts (ℓ := (outM : Memref sig .tc .vmem S1536x1536 .bf16).view.loc (c : Thread nD τ)) Finset.univ Ck _ Ck_parts (fun k _ k' _ h => Ck_disj k k' h) q g

omit [FloatOps F] in
theorem out_chunks_any (c : Dev nD) :
    outAny (F := F) c Finset.univ ⊢ bigSep Finset.univ fun k => outAny (F := F) c (R c k 0) := by
  unfold outAny
  iintro ⟨%g, H⟩
  ihave H := (Entails.of_eq (out_chunks c fullShare g)) $$ H
  iapply (show (bigSep Finset.univ fun k => outPt (F := F) c (Ck k) fullShare g) ⊢ bigSep Finset.univ fun k => iprop(∃ g, outPt (F := F) c (R c k 0) fullShare g)
    from bigSep_mono fun k _ => outAny_intro c (Ck k) g) $$ H

/-! ## The receive buffer, by slots -/

omit [FloatOps F] in
/-- The whole receive buffer is cut into the slots of the copies. -/
theorem rs_slots (c : Dev nD) :
    rsAny (F := F) c Finset.univ ⊢ bigSep Finset.univ fun s => bigSep Finset.univ fun k => rsAny (F := F) c (slot s k) := by
  unfold rsAny
  rw [← bigSep_univ_prod (fun x : Fin 3 × Fin 6 => iprop(∃ g, rsPt (F := F) c (slot x.1 x.2) fullShare g))]
  iintro ⟨%g, H⟩
  ihave H := (Entails.of_eq (show rsPt (F := F) c Finset.univ fullShare g = bigSep Finset.univ fun x : Fin 3 × Fin 6 => rsPt c (slot x.1 x.2) fullShare g
    from pt_parts (ℓ := (rsM : Memref sig .tc .vmem S1344x1536 .bf16).view.loc (c : Thread nD τ)) Finset.univ (fun x : Fin 3 × Fin 6 => slot x.1 x.2) _ slot_parts (fun x _ y _ h => slot_disj x y h) fullShare g)) $$ H
  iapply (show (bigSep Finset.univ fun x : Fin 3 × Fin 6 => rsPt (F := F) c (slot x.1 x.2) fullShare g)
    ⊢ bigSep Finset.univ fun x : Fin 3 × Fin 6 => iprop(∃ g, rsPt (F := F) c (slot x.1 x.2) fullShare g)
    from bigSep_mono fun x _ => rsAny_intro c (slot x.1 x.2) g) $$ H

/-- The slots are the whole receive buffer. -/
theorem rs_join (c : Dev nD) (g₀ : S1344x1536.Idx → F .bf16) :
    (bigSep Finset.univ fun s => bigSep Finset.univ fun k => rsAny (F := F) c (slot s k)) ⊢ rsAny (F := F) c Finset.univ := by
  unfold rsAny
  rw [← bigSep_univ_prod (fun x : Fin 3 × Fin 6 => iprop(∃ g, rsPt (F := F) c (slot x.1 x.2) fullShare g))]
  haveI : Nonempty (S1344x1536.Idx → F .bf16) := ⟨g₀⟩
  iintro H
  ihave H := (BI.bigSep_exists_pi Finset.univ (fun (x : Fin 3 × Fin 6) (g : S1344x1536.Idx → F .bf16) => rsPt (F := F) c (slot x.1 x.2) fullShare g)) $$ H
  icases H with ⟨%fs, H⟩
  iapply (show (bigSep Finset.univ fun x : Fin 3 × Fin 6 => rsPt (F := F) c (slot x.1 x.2) fullShare (fs x))
      ⊢ iprop(∃ g, rsPt (F := F) c Finset.univ fullShare g)
    from pt_join (ℓ := (rsM : Memref sig .tc .vmem S1344x1536 .bf16).view.loc (c : Thread nD τ)) Finset.univ (fun x : Fin 3 × Fin 6 => slot x.1 x.2) _ slot_parts (fun x _ y _ h => slot_disj x y h)
      fullShare fs g₀) $$ H

omit [FloatOps F] in
/-- Two nested families, in the other order. -/
theorem bigSep_swap {α β : Type} [Fintype α] [Fintype β] (Φ : α → β → sProp 𝕄) :
    (bigSep Finset.univ fun a => bigSep Finset.univ fun b => Φ a b)
      = bigSep Finset.univ fun b => bigSep Finset.univ fun a => Φ a b := by
  rw [← bigSep_univ_prod (fun x : α × β => Φ x.1 x.2), ← bigSep_univ_prod (fun x : β × α => Φ x.2 x.1),
    bigSep_univ_equiv (Equiv.prodComm β α)]
  rfl

/-- The exchanges of chunk `k`, by bit or by step. -/
def stepEquiv (k : Fin 6) : Fin 3 ≃ Fin 3 := ⟨dim k, stp k, stp_dim k, dim_stp k⟩

omit [FloatOps F] in
/-- A family over bits and chunks, taken over steps and chunks. -/
theorem by_steps (Ψ : Fin 3 → Fin 6 → Fin 3 → sProp 𝕄) :
    (bigSep Finset.univ fun d => bigSep Finset.univ fun k => Ψ d k (stp k d))
      = bigSep Finset.univ fun s => bigSep Finset.univ fun k => Ψ (dim k s) k s := by
  rw [bigSep_swap fun d k => Ψ d k (stp k d), bigSep_swap fun s k => Ψ (dim k s) k s]
  refine bigSep_congr fun k _ => ?_
  rw [bigSep_univ_equiv (stepEquiv k)]
  refine bigSep_congr fun s _ => ?_
  show Ψ (dim k s) k (stp k (dim k s)) = _
  rw [stp_dim]

omit [FloatOps F] in
/-- A device's receive buffer, cut for its partners. -/
theorem rs_give (c : Dev nD) :
    rsAny (F := F) c Finset.univ ⊢ bigSep Finset.univ fun d => barPay (F := F) (peer c d) d := by
  refine (rs_slots c).trans (Entails.of_eq ?_)
  rw [← by_steps fun d k s => rsAny (F := F) c (slot s k)]
  refine bigSep_congr fun d _ => ?_
  unfold barPay
  rw [peer_peer]

omit [FloatOps F] in
/-- What the partners hand over, by steps. -/
theorem rs_take (c : Dev nD) :
    (bigSep Finset.univ fun d => barPay (F := F) c d)
      = bigSep Finset.univ fun s => bigSep Finset.univ fun k => rsAny (F := F) (par c k s) (slot s k) :=
  by_steps fun d k s => rsAny (F := F) (peer c d) (slot s k)

/-! ## The shares of a chunk, put together -/

section
variable (A : Dev nD → S1536x768.Idx → F .bf16) (B : Dev nD → S768x1536.Idx → F .bf16)

/-- All that is held of chunk `k` at the end is the chunk. -/
theorem chunk_final (c : Dev nD) (k : Fin 6) :
    iprop(outPt c (R c k 1) (held 3) (Gf A B) ∗ rest A B c 0 k ∗ rest A B c 1 k ∗ outPt c (Sd c k 0) fullShare (Gf A B)
        ∗ outPt c (R c k 3) (lent (tA 0)) (Gf A B) ∗ outPt c (R c k 2) (lent (tA 1)) (Gf A B)
        ∗ outPt c (R c k 1) (lent (tA 2)) (Gf A B))
      ⊢ outPt c (Ck k) fullShare (Gf A B) := by
  iintro ⟨H, Ha, Hb, HS, L0, L1, L2⟩
  ihave Hb := (show rest A B c 1 k ⊢ iprop(outPt c (Sd c k 1) (held 0).right (Gf A B) ∗ outPt c (Sd c k 1) (held 1).right (Gf A B)) from .rfl) $$ Hb
  icases Hb with ⟨Hb, Hc⟩
  ihave Ha := (show rest A B c 0 k ⊢ outPt c (Sd c k 2) (held 0).right (Gf A B) from .rfl) $$ Ha
  ihave L0 := (show iprop(outPt c (R c k 3) (held 0).right (Gf A B) ∗ outPt c (Sd c k 2) (held 0).right (Gf A B)) ⊢ outPt c (R c k 2) (held 0).right (Gf A B)
    from (out_split c k 2 _ _).2) $$ [L0 Ha]
  · isplitl [L0]; · iexact L0
    iexact Ha
  ihave L0 := (show iprop(outPt c (R c k 2) (held 0).right (Gf A B) ∗ outPt c (Sd c k 1) (held 0).right (Gf A B)) ⊢ outPt c (R c k 1) (held 0).right (Gf A B)
    from (out_split c k 1 _ _).2) $$ [L0 Hb]
  · isplitl [L0]; · iexact L0
    iexact Hb
  ihave L1 := (show iprop(outPt c (R c k 2) (held 1).right (Gf A B) ∗ outPt c (Sd c k 1) (held 1).right (Gf A B)) ⊢ outPt c (R c k 1) (held 1).right (Gf A B)
    from (out_split c k 1 _ _).2) $$ [L1 Hc]
  · isplitl [L1]; · iexact L1
    iexact Hc
  ihave H := (show iprop(outPt c (R c k 1) (held 3) (Gf A B) ∗ outPt c (R c k 1) (held 2).right (Gf A B)) ⊢ outPt c (R c k 1) (held 2) (Gf A B)
    from (out_share c _ (held 2) _).2) $$ [H L2]
  · isplitl [H]; · iexact H
    iexact L2
  ihave H := (show iprop(outPt c (R c k 1) (held 2) (Gf A B) ∗ outPt c (R c k 1) (held 1).right (Gf A B)) ⊢ outPt c (R c k 1) (held 1) (Gf A B)
    from (out_share c _ (held 1) _).2) $$ [H L1]
  · isplitl [H]; · iexact H
    iexact L1
  ihave H := (show iprop(outPt c (R c k 1) (held 1) (Gf A B) ∗ outPt c (R c k 1) (held 0).right (Gf A B)) ⊢ outPt c (R c k 1) (held 0) (Gf A B)
    from (out_share c _ (held 0) _).2) $$ [H L0]
  · isplitl [H]; · iexact H
    iexact L0
  iapply (show iprop(outPt c (R c k 1) fullShare (Gf A B) ∗ outPt c (Sd c k 0) fullShare (Gf A B)) ⊢ outPt c (Ck k) fullShare (Gf A B)
    from (out_split c k 0 _ _).2)
  isplitl [H]; · iexact H
  iexact HS

end

end Cert.KProof
-- ==== Proof.Phases.lean ====
/-
The passages of the body over all chunks.
-/
module

public import proofs.«01_k».proof.Proof.Regions

@[expose] public section

noncomputable section

namespace Cert.KProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- All of a family over the six chunks. -/
abbrev all6 (Φ : Fin 6 → sProp (MT nD τ sig Unit (Elt F) ℕ UU ℕ)) : sProp 𝕄 := bigSep Finset.univ Φ

section
variable (A : Dev nD → S1536x768.Idx → F .bf16) (B : Dev nD → S768x1536.Idx → F .bf16)
  (K : Dev nD × Option (Fin 72) → ℕ) (c : Dev nD)

theorem phase0 : Tr c iprop(glo A B K ∗ I0 A B c 0 ∗ all6 (fun k => outAny (F := F) c (R c k 0))
      ∗ all6 (fun k => rsAny (F := F) (par c k 0) (slot 0 k)) ∗ all6 fun k => toks (F := F) c 0 k)
    (loop 6 (chunk0 c))
    iprop(I0 A B c 6 ∗ all6 (fun k => outPt c (R c k 1) fullShare (P0 A B c))
      ∗ all6 fun k => cred (tallyAt (sCell c 0 k) () (amt 0))) := by
  have h := Tr.loop (glo A B K) 6 (I0 A B c) _ _ (chunk0 c) (chunk0_tr A B K c)
  simp only [bigSep_sep'] at h
  exact h

theorem phase1 (e : Fin 2) : Tr c iprop(glo A B K ∗ OW (F := F) c (Ow c (6 * (tR e.succ).val + 0))
      ∗ all6 (fun k => outPt c (R c k (e.val + 1)) fullShare (PS A B e.castSucc c))
      ∗ all6 (fun k => rcvW (F := F) c (tR e.castSucc) k)
      ∗ all6 (fun k => rsAny (F := F) (par c k e.succ) (slot e.succ k)) ∗ all6 fun k => toks (F := F) c (tR e.succ) k)
    (loop 6 (chunk1 c e))
    iprop(OW (F := F) c (Ow c (6 * (tR e.succ).val + 6))
      ∗ all6 (fun k => outPt c (R c k (e.val + 2)) fullShare (PS A B e.succ c))
      ∗ all6 (fun k => cred (tallyAt (sCell c (tR e.succ) k) () (amt e.succ)))
      ∗ all6 (fun k => atPos ER (rCell c (tR e.castSucc) k) (0 + 1) ∅ 0)
      ∗ all6 (fun k => rsAny (F := F) c (slot e.castSucc k))
      ∗ all6 fun k => outAny (F := F) (par c k e.castSucc) (R c k (e.val + 1))) := by
  have h := Tr.loop (glo A B K) 6 (fun n => OW (F := F) c (Ow c (6 * (tR e.succ).val + n))) _ _ (chunk1 c e)
    (chunk1_tr A B K c e)
  simp only [bigSep_sep'] at h
  exact h

theorem phase2 : Tr c iprop(glo A B K ∗ OW (F := F) c (Ow c (6 * (tA 0).val + 0))
      ∗ all6 (fun k => outPt c (R c k 3) fullShare (PS A B 2 c))
      ∗ all6 (fun k => rcvW (F := F) c (tR 2) k) ∗ all6 fun k => toks (F := F) c (tA 0) k)
    (loop 6 (chunk2 c))
    iprop(OW (F := F) c (Ow c (6 * (tA 0).val + 6))
      ∗ all6 (fun k => outPt c (R c k 3) (held 1) (Gf A B))
      ∗ all6 (fun k => cred (tallyAt (sCell c (tA 0) k) () (amt 2)))
      ∗ all6 (fun k => atPos ER (rCell c (tR 2) k) (0 + 1) ∅ 0)
      ∗ all6 fun k => rsAny (F := F) c (slot 2 k)) := by
  have h := Tr.loop (glo A B K) 6 (fun n => OW (F := F) c (Ow c (6 * (tA 0).val + n))) _ _ (chunk2 c) (chunk2_tr A B K c)
  simp only [bigSep_sep'] at h
  exact h

theorem phase3 (e : Fin 2) : Tr c iprop(glo A B K ∗ OW (F := F) c (Ow c (6 * (tA e.succ).val + 0))
      ∗ all6 (fun k => outPt c (R c k (e.castSucc.rev.val + 1)) (held (e.val + 1)) (Gf A B))
      ∗ all6 (fun k => rcvW (F := F) c (tA e.castSucc) k)
      ∗ all6 (fun k => outAny (F := F) (par c k e.succ.rev) (R c k (e.succ.rev.val + 1)))
      ∗ all6 fun k => toks (F := F) c (tA e.succ) k)
    (loop 6 (chunk3 c e))
    iprop(OW (F := F) c (Ow c (6 * (tA e.succ).val + 6))
      ∗ all6 (fun k => outPt c (R c k (e.succ.rev.val + 1)) (held (e.val + 2)) (Gf A B))
      ∗ all6 (fun k => rest A B c e k)
      ∗ all6 (fun k => cred (tallyAt (sCell c (tA e.succ) k) () (amt e.succ.rev)))
      ∗ all6 fun k => atPos ER (rCell c (tA e.castSucc) k) (0 + 1) ∅ 0) := by
  have h := Tr.loop (glo A B K) 6 (fun n => OW (F := F) c (Ow c (6 * (tA e.succ).val + n))) _ _ (chunk3 c e)
    (chunk3_tr A B K c e)
  simp only [bigSep_sep'] at h
  exact h

theorem phase4 : Tr c iprop(glo A B K ∗ OW (F := F) c (Ow c 36) ∗ all6 fun k => rcvW (F := F) c (tA 2) k)
    (loop 6 fun k => agWait 2 k c)
    iprop(OW (F := F) c (Ow c 36) ∗ all6 (fun k => atPos ER (rCell c (tA 2) k) (0 + 1) ∅ 0)
      ∗ all6 fun k => outPt c (Sd c k 0) fullShare (Gf A B)) := by
  have h := Tr.loop (glo A B K) 6 (fun _ => OW (F := F) c (Ow c 36)) _ _ (fun k => agWait 2 k c) (last_tr A B K c)
  simp only [bigSep_sep'] at h
  exact h

/-- The departures of the reduce-scatter. -/
theorem phase5 : Tr c iprop(glo A B K ∗ OW (F := F) c 0 ∗ bigSep Finset.univ fun s => all6 fun k => sndW (F := F) c (tR s) k)
    (loop 3 fun s => loop 6 fun k => rsDone s k c)
    iprop(OW (F := F) c 0 ∗ bigSep Finset.univ fun s => all6 fun k => atPos ER (sCell c (tR s) k) (0 + 1) ∅ 0) :=
  Tr.loop (glo A B K) 3 (fun _ => OW (F := F) c 0) _ _ _ fun s =>
    Tr.loop (glo A B K) 6 (fun _ => OW (F := F) c 0) _ _ _ fun k => rsDone_tr A B K c s k

/-- The departures of the all-gather. -/
theorem phase6 : Tr c iprop(glo A B K ∗ OW (F := F) c 0 ∗ bigSep Finset.univ fun s => all6 fun k => sndW (F := F) c (tA s) k)
    (loop 3 fun s => loop 6 fun k => agDone s k c)
    iprop(OW (F := F) c 0 ∗ (bigSep Finset.univ fun s => all6 fun k => atPos ER (sCell c (tA s) k) (0 + 1) ∅ 0)
      ∗ bigSep Finset.univ fun s => all6 fun k => outPt c (R c k (s.rev.val + 1)) (lent (tA s)) (Gf A B)) := by
  have h := Tr.loop (glo A B K) 3 (fun _ => OW (F := F) c 0) _ _ _ fun s =>
    Tr.loop (glo A B K) 6 (fun _ => OW (F := F) c 0) _ _ _ fun k => agDone_tr A B K c s k
  simp only [bigSep_sep'] at h
  exact h

end

end Cert.KProof
-- ==== Proof.Cells.lean ====
/-
A device's semaphore cells as one family: they are opened and closed together.
-/
module

public import proofs.«01_k».proof.Proof.Phases

@[expose] public section

noncomputable section

namespace Cert.KProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

omit [FloatOps F] in
/-- A family over an optional index: the one without, and the others. -/
theorem bigSep_option {n : ℕ} (Φ : Option (Fin n) → sProp 𝕄) :
    bigSep Finset.univ Φ = iprop(Φ none ∗ bigSep Finset.univ fun i => Φ (some i)) := by
  rw [show (Finset.univ : Finset (Option (Fin n))) = insert none (Finset.univ.map ⟨some, Option.some_injective _⟩) by
    ext x; cases x <;> simp, bigSep_insert (by simp), bigSep_map]
  rfl

omit [FloatOps F] in
/-- A family over 36 numbers, by step and chunk. -/
theorem by_copies (Φ : Fin 36 → sProp 𝕄) :
    bigSep Finset.univ Φ = bigSep Finset.univ fun t => all6 fun k => Φ (cix t k) := by
  rw [bigSep_univ_equiv (finProdFinEquiv (m := 6) (n := 6)), bigSep_univ_prod]
  refine bigSep_congr fun t _ => bigSep_congr fun k _ => congrArg Φ (Fin.ext ?_)
  show k.val + 6 * t.val = 6 * t.val + k.val
  omega

omit [FloatOps F] in
/-- A family over a device's own semaphores: departures and arrivals. -/
theorem by_sems (Φ : SemLoc sig → sProp 𝕄) :
    (bigSep Finset.univ fun i => Φ (osem i))
      = iprop((bigSep Finset.univ fun t => all6 fun k => Φ (.dma (sSemE (cix t k))))
        ∗ bigSep Finset.univ fun t => all6 fun k => Φ (.dma (rSemE (cix t k)))) := by
  rw [bigSep_univ_equiv (finSumFinEquiv (m := 36) (n := 36)), bigSep_univ_sum, by_copies, by_copies]
  refine congrArg₂ (fun X Y : sProp 𝕄 => iprop(X ∗ Y)) ?_ ?_
  · exact bigSep_congr fun t _ => bigSep_congr fun k _ => congrArg Φ (osem_sI t k)
  · exact bigSep_congr fun t _ => bigSep_congr fun k _ => congrArg Φ (osem_rI t k)

omit [FloatOps F] in
/-- A family over a device's cells: the barrier, departures and arrivals. -/
theorem by_cells (c : Dev nD) (Φ : GSem nD τ sig → sProp 𝕄) :
    (bigSep Finset.univ fun x => Φ (kcell (c, x)))
      = iprop(Φ (barCell c) ∗ (bigSep Finset.univ fun t => all6 fun k => Φ (sCell c t k))
        ∗ bigSep Finset.univ fun t => all6 fun k => Φ (rCell c t k)) := by
  rw [bigSep_option]
  exact congrArg (fun X : sProp 𝕄 => iprop(Φ (barCell c) ∗ X)) (by_sems fun sm => Φ ((c : Thread nD τ), sm))

omit [FloatOps F] in
/-- A family over the six steps: the reduce-scatter's and the all-gather's. -/
theorem by_steps6 (Φ : Fin 6 → sProp 𝕄) :
    bigSep Finset.univ Φ = iprop(Φ (tR 0) ∗ Φ (tR 1) ∗ Φ (tR 2) ∗ Φ (tA 0) ∗ Φ (tA 1) ∗ Φ (tA 2)) :=
  bigSep_univ_eq_bigSepL [tR 0, tR 1, tR 2, tA 0, tA 1, tA 2] (by decide) (by decide) Φ

omit [FloatOps F] in
/-- What follows for each index with the help of a persistent fact follows for all. -/
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

section
variable (A : Dev nD → S1536x768.Idx → F .bf16) (B : Dev nD → S768x1536.Idx → F .bf16)
  (K : Dev nD × Option (Fin 72) → ℕ) (c : Dev nD)

/-- A cell whose only round is over is closed: its counter is zero. -/
theorem close_one (x : Option (Fin 72)) :
    iprop(glo A B K ∗ atPos ER (kcell (c, x)) (0 + 1) ∅ 0) ⊢ (|={Set.univ}=> semVal (kcell (c, x)) 0 : sProp 𝕄) := by
  iintro ⟨#HG, Hat⟩
  imod (Rounds.cell_close ER (Rd A B) (Set.mem_univ (K (c, x))) (fun h => h) (R := 0 + 1) (duties_later A B (kcell (c, x)))) $$ [Hat] with Hz
  · isplitr; · iapply (glo_inv A B K (c, x)); iexact HG
    iexact Hat
  imodintro
  iexact Hz

/-- All cells of a device are closed together. -/
theorem close_all :
    iprop(glo A B K ∗ atPos ER (barCell c) (0 + 1) ∅ 0
        ∗ (bigSep Finset.univ fun t => all6 fun k => atPos ER (sCell c t k) (0 + 1) ∅ 0)
        ∗ bigSep Finset.univ fun t => all6 fun k => atPos ER (rCell c t k) (0 + 1) ∅ 0)
      ⊢ (|={Set.univ}=> bigSep Finset.univ fun x => semVal (kcell (c, x)) 0 : sProp 𝕄) := by
  rw [← by_cells c fun g => (atPos ER g (0 + 1) ∅ 0 : sProp 𝕄)]
  exact (bigSep_with fun x _ => close_one A B K c x).trans (bigSep_fupd _ _)

end

end Cert.KProof
-- ==== Proof.Body.lean ====
/-
The body, from the handshake to the closed cells: every device ends with the whole result.
-/
module

public import proofs.«01_k».proof.Proof.Cells

@[expose] public section

noncomputable section

namespace Cert.KProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A device's positions at the beginning, the duties it pays, the credit it waits for. -/
def linear (c : Dev nD) : sProp 𝕄 :=
  iprop((bigSep Finset.univ fun d : Fin 3 => dutyTok ER (barCell (peer c d)) 0 d)
    ∗ (bigSep Finset.univ fun t => all6 fun k => toks (F := F) c t k)
    ∗ atPos ER (barCell c) 0 ∅ 0
    ∗ (bigSep Finset.univ fun t => all6 fun k => atPos ER (sCell c t k) 0 ∅ 0)
    ∗ bigSep Finset.univ fun t => all6 fun k => atPos ER (rCell c t k) 0 ∅ 0)

/-- The credit at the beginning: for the handshake and for the arrivals. -/
def credits (c : Dev nD) : sProp 𝕄 :=
  iprop(cred (tallyAt (barCell c) () 3)
    ∗ bigSep Finset.univ fun t => all6 fun k => cred (tallyAt (rCell c t k) () (amt (sOf t))))

section
variable (A : Dev nD → S1536x768.Idx → F .bf16) (B : Dev nD → S768x1536.Idx → F .bf16)
  (K : Dev nD × Option (Fin 72) → ℕ) (c : Dev nD)

omit [FloatOps F] in
/-- Credit and positions make what arrival waits need. -/
theorem rcvW_all :
    iprop((bigSep Finset.univ fun t => all6 fun k => cred (tallyAt (rCell c t k) () (amt (sOf t))))
        ∗ bigSep Finset.univ fun t => all6 fun k => atPos ER (rCell c t k) 0 ∅ 0)
      ⊢ bigSep Finset.univ fun t => all6 fun k => rcvW (F := F) c t k := by
  unfold rcvW all6
  simp only [bigSep_sep']
  exact .rfl

omit [FloatOps F] in
/-- Credit and positions make what departure waits need. -/
theorem sndW_of (t : Fin 6) (s : Fin 3) (hs : sOf t = s) :
    iprop(all6 (fun k => cred (tallyAt (sCell c t k) () (amt s))) ∗ all6 fun k => atPos ER (sCell c t k) 0 ∅ 0)
      ⊢ all6 fun k => sndW (F := F) c t k := by
  subst hs
  unfold sndW all6
  simp only [bigSep_sep']
  exact .rfl

/-- All shares of all chunks are the whole result. -/
theorem out_final :
    iprop(all6 (fun k => outPt c (R c k 1) (held 3) (Gf A B)) ∗ all6 (fun k => rest A B c 0 k) ∗ all6 (fun k => rest A B c 1 k)
        ∗ all6 (fun k => outPt c (Sd c k 0) fullShare (Gf A B))
        ∗ all6 (fun k => outPt c (R c k 3) (lent (tA 0)) (Gf A B)) ∗ all6 (fun k => outPt c (R c k 2) (lent (tA 1)) (Gf A B))
        ∗ all6 fun k => outPt c (R c k 1) (lent (tA 2)) (Gf A B))
      ⊢ outPt c Finset.univ fullShare (Gf A B) := by
  rw [out_chunks]
  unfold all6
  simp only [← bigSep_sep']
  exact bigSep_mono fun k _ => chunk_final A B c k

/-- The body of device `c`, from what the launch deals it to the finished result. -/
theorem prog_tr (f : S1536x768.Idx → F .bf16) (f' : S768x1536.Idx → F .bf16) :
    Tr c iprop(glo A B K ∗ OW c (O₀ c) ∗ linear c ∗ credits c ∗ aPt c (A c) ∗ bPt c (B c) ∗ a2Pt c f ∗ b2Pt c f'
        ∗ outAny (F := F) c Finset.univ ∗ rsAny (F := F) c Finset.univ)
      (prog c)
      iprop((OW c 0 ∗ aPt c (A c) ∗ bPt c (B c) ∗ outPt c Finset.univ fullShare (Gf A B))
        ∗ ((∃ g, a2Pt c g) ∗ (∃ g, b2Pt c g) ∗ rsAny (F := F) c Finset.univ)
        ∗ atPos ER (barCell c) (0 + 1) ∅ 0
        ∗ (bigSep Finset.univ fun t => all6 fun k => atPos ER (sCell c t k) (0 + 1) ∅ 0)
        ∗ bigSep Finset.univ fun t => all6 fun k => atPos ER (rCell c t k) (0 + 1) ∅ 0) := by
  have h0 : Tr c iprop(glo A B K ∗ I0 A B c 0 ∗ all6 (fun k => outAny (F := F) c (R c k 0))
        ∗ all6 (fun k => rsAny (F := F) (par c k 0) (slot 0 k)) ∗ all6 fun k => toks (F := F) c (tR 0) k)
      (loop 6 (chunk0 c))
      iprop(I0 A B c 6 ∗ all6 (fun k => outPt c (R c k 1) fullShare (PS A B 0 c))
        ∗ all6 fun k => cred (tallyAt (sCell c (tR 0) k) () (amt 0))) := phase0 A B K c
  have h1 : Tr c iprop(glo A B K ∗ OW (F := F) c (Ow c 6) ∗ all6 (fun k => outPt c (R c k 1) fullShare (PS A B 0 c))
        ∗ all6 (fun k => rcvW (F := F) c (tR 0) k)
        ∗ all6 (fun k => rsAny (F := F) (par c k 1) (slot 1 k)) ∗ all6 fun k => toks (F := F) c (tR 1) k)
      (loop 6 (chunk1 c 0))
      iprop(OW (F := F) c (Ow c 12) ∗ all6 (fun k => outPt c (R c k 2) fullShare (PS A B 1 c))
        ∗ all6 (fun k => cred (tallyAt (sCell c (tR 1) k) () (amt 1)))
        ∗ all6 (fun k => atPos ER (rCell c (tR 0) k) (0 + 1) ∅ 0)
        ∗ all6 (fun k => rsAny (F := F) c (slot 0 k)) ∗ all6 fun k => outAny (F := F) (par c k 0) (R c k 1)) :=
    phase1 A B K c 0
  have h2 : Tr c iprop(glo A B K ∗ OW (F := F) c (Ow c 12) ∗ all6 (fun k => outPt c (R c k 2) fullShare (PS A B 1 c))
        ∗ all6 (fun k => rcvW (F := F) c (tR 1) k)
        ∗ all6 (fun k => rsAny (F := F) (par c k 2) (slot 2 k)) ∗ all6 fun k => toks (F := F) c (tR 2) k)
      (loop 6 (chunk1 c 1))
      iprop(OW (F := F) c (Ow c 18) ∗ all6 (fun k => outPt c (R c k 3) fullShare (PS A B 2 c))
        ∗ all6 (fun k => cred (tallyAt (sCell c (tR 2) k) () (amt 2)))
        ∗ all6 (fun k => atPos ER (rCell c (tR 1) k) (0 + 1) ∅ 0)
        ∗ all6 (fun k => rsAny (F := F) c (slot 1 k)) ∗ all6 fun k => outAny (F := F) (par c k 1) (R c k 2)) :=
    phase1 A B K c 1
  have h3 : Tr c iprop(glo A B K ∗ OW (F := F) c (Ow c 18) ∗ all6 (fun k => outPt c (R c k 3) fullShare (PS A B 2 c))
        ∗ all6 (fun k => rcvW (F := F) c (tR 2) k) ∗ all6 fun k => toks (F := F) c (tA 0) k)
      (loop 6 (chunk2 c))
      iprop(OW (F := F) c (Ow c 24) ∗ all6 (fun k => outPt c (R c k 3) (held 1) (Gf A B))
        ∗ all6 (fun k => cred (tallyAt (sCell c (tA 0) k) () (amt 2)))
        ∗ all6 (fun k => atPos ER (rCell c (tR 2) k) (0 + 1) ∅ 0)
        ∗ all6 fun k => rsAny (F := F) c (slot 2 k)) := phase2 A B K c
  have h4 : Tr c iprop(glo A B K ∗ OW (F := F) c (Ow c 24) ∗ all6 (fun k => outPt c (R c k 3) (held 1) (Gf A B))
        ∗ all6 (fun k => rcvW (F := F) c (tA 0) k)
        ∗ all6 (fun k => outAny (F := F) (par c k 1) (R c k 2)) ∗ all6 fun k => toks (F := F) c (tA 1) k)
      (loop 6 (chunk3 c 0))
      iprop(OW (F := F) c (Ow c 30) ∗ all6 (fun k => outPt c (R c k 2) (held 2) (Gf A B))
        ∗ all6 (fun k => rest A B c 0 k)
        ∗ all6 (fun k => cred (tallyAt (sCell c (tA 1) k) () (amt 1)))
        ∗ all6 fun k => atPos ER (rCell c (tA 0) k) (0 + 1) ∅ 0) := phase3 A B K c 0
  have h5 : Tr c iprop(glo A B K ∗ OW (F := F) c (Ow c 30) ∗ all6 (fun k => outPt c (R c k 2) (held 2) (Gf A B))
        ∗ all6 (fun k => rcvW (F := F) c (tA 1) k)
        ∗ all6 (fun k => outAny (F := F) (par c k 0) (R c k 1)) ∗ all6 fun k => toks (F := F) c (tA 2) k)
      (loop 6 (chunk3 c 1))
      iprop(OW (F := F) c (Ow c 36) ∗ all6 (fun k => outPt c (R c k 1) (held 3) (Gf A B))
        ∗ all6 (fun k => rest A B c 1 k)
        ∗ all6 (fun k => cred (tallyAt (sCell c (tA 2) k) () (amt 0)))
        ∗ all6 fun k => atPos ER (rCell c (tA 1) k) (0 + 1) ∅ 0) := phase3 A B K c 1
  have h6 := phase4 A B K c
  have h7 := phase5 A B K c
  have h8 := phase6 A B K c
  rw [Ow_end c 36 (le_refl _)] at h5 h6
  simp only [bigSep_three] at h7 h8
  unfold Tr prog linear credits
  iintro ⟨#HG, HO, ⟨Hbt, Hts, Hbp, Hsp, Hrp⟩, ⟨Hbc, Hrc⟩, Ha, Hb, Ha2, Hb2, Hout, Hrs⟩
  ihave Hw := (rcvW_all (F := F) c) $$ [Hrc Hrp]
  · isplitl [Hrc] <;> iassumption
  ihave Hw := (Entails.of_eq (by_steps6 fun t => all6 fun k => rcvW (F := F) c t k)) $$ Hw
  icases Hw with ⟨W0, W1, W2, W3, W4, W5⟩
  ihave Hts := (Entails.of_eq (by_steps6 fun t => all6 fun k => toks (F := F) c t k)) $$ Hts
  icases Hts with ⟨T0, T1, T2, T3, T4, T5⟩
  ihave Hsp := (Entails.of_eq (by_steps6 fun t => all6 fun k => (atPos ER (sCell c t k) 0 ∅ 0 : sProp 𝕄))) $$ Hsp
  icases Hsp with ⟨S0, S1, S2, S3, S4, S5⟩
  ihave Hrs := (rs_give (F := F) c) $$ Hrs
  ihave Hout := (out_chunks_any (F := F) c) $$ Hout
  iapply (Tr.step (handshake_tr A B K c)) $$ [HO Hbt Hrs Hbc Hbp]
  · isplitr; · iexact HG
    isplitl [HO]; · iexact HO
    isplitl [Hbt]; · iexact Hbt
    isplitl [Hrs]; · iexact Hrs
    isplitl [Hbc] <;> iassumption
  iintro ⟨HO, Hbp, Hrs⟩
  ihave Hrs := (Entails.of_eq ((rs_take (F := F) c).trans (bigSep_three fun s => bigSep Finset.univ fun k => rsAny (F := F) (par c k s) (slot s k)))) $$ Hrs
  icases Hrs with ⟨R0, R1, R2⟩
  iapply (Tr.step (copyA_tr c (A c) f)) $$ [Ha Ha2]
  · isplitl [Ha] <;> iassumption
  iintro ⟨Ha, Ha2⟩
  iapply (Tr.step h0) $$ [HO Ha2 Hb Hb2 Hout R0 T0]
  · isplitr; · iexact HG
    isplitl [HO Ha2 Hb Hb2]
    · unfold I0
      isplitl [HO]; · iexact HO
      isplitl [Ha2]; · iexact Ha2
      isplitl [Hb]; · iexact Hb
      iexists f'; iexact Hb2
    isplitl [Hout]; · iexact Hout
    isplitl [R0] <;> iassumption
  unfold I0
  iintro ⟨⟨HO, Ha2, Hb, Hb2⟩, Hout, C0⟩
  iapply (Tr.step h1) $$ [HO Hout W0 R1 T1]
  · isplitr; · iexact HG
    isplitl [HO]; · iexact HO
    isplitl [Hout]; · iexact Hout
    isplitl [W0]; · iexact W0
    isplitl [R1] <;> iassumption
  iintro ⟨HO, Hout, C1, P0, Q0, X0⟩
  iapply (Tr.step h2) $$ [HO Hout W1 R2 T2]
  · isplitr; · iexact HG
    isplitl [HO]; · iexact HO
    isplitl [Hout]; · iexact Hout
    isplitl [W1]; · iexact W1
    isplitl [R2] <;> iassumption
  iintro ⟨HO, Hout, C2, P1, Q1, X1⟩
  iapply (Tr.step h3) $$ [HO Hout W2 T3]
  · isplitr; · iexact HG
    isplitl [HO]; · iexact HO
    isplitl [Hout]; · iexact Hout
    isplitl [W2] <;> iassumption
  iintro ⟨HO, Hout, C3, P2, Q2⟩
  iapply (Tr.step h4) $$ [HO Hout W3 X1 T4]
  · isplitr; · iexact HG
    isplitl [HO]; · iexact HO
    isplitl [Hout]; · iexact Hout
    isplitl [W3]; · iexact W3
    isplitl [X1] <;> iassumption
  iintro ⟨HO, Hout, Y0, C4, P3⟩
  iapply (Tr.step h5) $$ [HO Hout W4 X0 T5]
  · isplitr; · iexact HG
    isplitl [HO]; · iexact HO
    isplitl [Hout]; · iexact Hout
    isplitl [W4]; · iexact W4
    isplitl [X0] <;> iassumption
  iintro ⟨HO, Hout, Y1, C5, P4⟩
  iapply (Tr.step h6) $$ [HO W5]
  · isplitr; · iexact HG
    isplitl [HO] <;> iassumption
  iintro ⟨HO, P5, Z0⟩
  ihave S0 := (sndW_of (F := F) c (tR 0) 0 rfl) $$ [C0 S0]
  · isplitl [C0] <;> iassumption
  ihave S1 := (sndW_of (F := F) c (tR 1) 1 rfl) $$ [C1 S1]
  · isplitl [C1] <;> iassumption
  ihave S2 := (sndW_of (F := F) c (tR 2) 2 rfl) $$ [C2 S2]
  · isplitl [C2] <;> iassumption
  ihave S3 := (sndW_of (F := F) c (tA 0) 2 rfl) $$ [C3 S3]
  · isplitl [C3] <;> iassumption
  ihave S4 := (sndW_of (F := F) c (tA 1) 1 rfl) $$ [C4 S4]
  · isplitl [C4] <;> iassumption
  ihave S5 := (sndW_of (F := F) c (tA 2) 0 rfl) $$ [C5 S5]
  · isplitl [C5] <;> iassumption
  iapply (Tr.step h7) $$ [HO S0 S1 S2]
  · isplitr; · iexact HG
    isplitl [HO]; · iexact HO
    isplitl [S0]; · iexact S0
    isplitl [S1] <;> iassumption
  iintro ⟨HO, S0, S1, S2⟩
  iapply (Tr.last h8) $$ [HO S3 S4 S5]
  · isplitr; · iexact HG
    isplitl [HO]; · iexact HO
    isplitl [S3]; · iexact S3
    isplitl [S4] <;> iassumption
  iintro ⟨HO, ⟨S3, S4, S5⟩, L0, L1, L2⟩
  isplitl [HO Ha Hb Hout Y0 Y1 Z0 L0 L1 L2]
  · isplitl [HO]; · iexact HO
    isplitl [Ha]; · iexact Ha
    isplitl [Hb]; · iexact Hb
    iapply (out_final A B c)
    isplitl [Hout]; · iexact Hout
    isplitl [Y0]; · iexact Y0
    isplitl [Y1]; · iexact Y1
    isplitl [Z0]; · iexact Z0
    isplitl [L0]; · iexact L0
    isplitl [L1]; · iexact L1
    iexact L2
  isplitl [Ha2 Hb2 Q0 Q1 Q2]
  · isplitl [Ha2]; · iexists (A c); iexact Ha2
    isplitl [Hb2]; · iexact Hb2
    iapply (rs_join c (Rv A B c 0 0))
    rw [bigSep_three]
    isplitl [Q0]; · iexact Q0
    isplitl [Q1] <;> iassumption
  isplitl [Hbp]; · iexact Hbp
  isplitl [S0 S1 S2 S3 S4 S5]
  · rw [by_steps6 fun t => all6 fun k => (atPos ER (sCell c t k) (0 + 1) ∅ 0 : sProp 𝕄)]
    isplitl [S0]; · iexact S0
    isplitl [S1]; · iexact S1
    isplitl [S2]; · iexact S2
    isplitl [S3]; · iexact S3
    isplitl [S4] <;> iassumption
  rw [by_steps6 fun t => all6 fun k => (atPos ER (rCell c t k) (0 + 1) ∅ 0 : sProp 𝕄)]
  isplitl [P0]; · iexact P0
  isplitl [P1]; · iexact P1
  isplitl [P2]; · iexact P2
  isplitl [P3]; · iexact P3
  isplitl [P4] <;> iassumption

end

end Cert.KProof
-- ==== Proof.Ghost.lean ====
/-
What the launch deals the devices: the cells with their invariants, the duties, the credit.
-/
module

public import proofs.«01_k».proof.Proof.Body

@[expose] public section

noncomputable section

namespace Cert.KProof

open Cert.KernelIdeal Cert.KernelIdeal.Gen
open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Cells and duties -/

theorem osem_injective : Function.Injective osem := fun i j h => by
  have h' : (3 + i.val : ℕ) = 3 + j.val := congrArg (fun s : SemLoc sig => match s with | .dma q => q.val | .reg _ => 0) h
  exact Fin.ext (by omega)

theorem csem_injective : Function.Injective csem := fun x y h => by
  match x, y, h with
  | none, none, _ => rfl
  | some i, some j, h => exact congrArg some (osem_injective h)

theorem kcell_injective : Function.Injective kcell := by
  rintro ⟨c, x⟩ ⟨c', x'⟩ h
  have h1 : c = c' := congrArg (fun g : GSem nD τ sig => g.1.1) h
  have h2 : csem x = csem x' := congrArg Prod.snd h
  rw [h1, csem_injective h2]

/-- All cells of all devices. -/
def cells : Finset (GSem nD τ sig) := Finset.univ.map ⟨kcell, kcell_injective⟩

/-- The duties of a device's cells: three of its barrier, one of each other. -/
def duty (x : Dev nD × (Fin 3 ⊕ Fin 72)) : GSem nD τ sig × ℕ × Fin 3 :=
  match x.2 with
  | .inl d => (barCell x.1, 0, d)
  | .inr i => (kcell (x.1, some i), 0, 0)

theorem duty_injective : Function.Injective duty := by
  rintro ⟨c, x⟩ ⟨c', x'⟩ h
  have hc : kcell (c, x.elim (fun _ => none) some) = kcell (c', x'.elim (fun _ => none) some) := by
    have := congrArg Prod.fst h
    cases x <;> cases x' <;> exact this
  have h0 := kcell_injective hc
  have h1 : c = c' := congrArg Prod.fst h0
  have h2 := congrArg Prod.snd h0
  subst h1
  match x, x', h, h2 with
  | .inl d, .inl d', h, _ => rw [show d = d' from congrArg (fun y : GSem nD τ sig × ℕ × Fin 3 => y.2.2) h]
  | .inr i, .inr i', _, h2 => rw [show i = i' from Option.some_injective _ h2]

def duties : Finset (GSem nD τ sig × ℕ × Fin 3) := Finset.univ.map ⟨duty, duty_injective⟩

/-- The duties of device `c`'s own cells. -/
def ownToks (c : Dev nD) : sProp 𝕄 :=
  iprop((bigSep Finset.univ fun d : Fin 3 => dutyTok ER (barCell c) 0 d)
    ∗ (bigSep Finset.univ fun t => all6 fun k => dutyTok ER (sCell c t k) 0 (0 : Fin 3))
    ∗ bigSep Finset.univ fun t => all6 fun k => dutyTok ER (rCell c t k) 0 (0 : Fin 3))

def u₀ : UU :=
  (initOf (Pipeline.cells cfgs cellOf_inj) (Pipeline.launchToks cfgs cellOf_inj), initOf cells duties)

/-! ## Dealing around -/

omit [FloatOps F] in
/-- A family over devices and indices, each index dealt along an involution of the devices. -/
theorem deal {I : Type} [Fintype I] (σ : Dev nD → I → Dev nD) (hσ : ∀ c i, σ (σ c i) i = c) (Φ : Dev nD → I → sProp 𝕄) :
    (bigSep Finset.univ fun c => bigSep Finset.univ fun i => Φ c i)
      = bigSep Finset.univ fun c => bigSep Finset.univ fun i => Φ (σ c i) i := by
  rw [bigSep_swap, bigSep_swap fun c i => Φ (σ c i) i]
  refine bigSep_congr fun i _ => ?_
  exact bigSep_univ_equiv (⟨fun c => σ c i, fun c => σ c i, fun c => hσ c i, fun c => hσ c i⟩ : Dev nD ≃ Dev nD) fun c => Φ c i

omit [FloatOps F] in
/-- Every duty goes to the device that pays it. -/
theorem toks_around : (bigSep Finset.univ fun c : Dev nD => ownToks (F := F) c)
    ⊢ bigSep Finset.univ fun c : Dev nD => iprop((bigSep Finset.univ fun d : Fin 3 => dutyTok ER (barCell (peer c d)) 0 d)
      ∗ bigSep Finset.univ fun t => all6 fun k => toks (F := F) c t k) := by
  unfold ownToks toks all6
  simp only [bigSep_sep']
  have hr : (bigSep Finset.univ fun c : Dev nD => bigSep Finset.univ fun t : Fin 6 => bigSep Finset.univ fun k : Fin 6 => (dutyTok ER (rCell c t k) 0 (0 : Fin 3) : sProp 𝕄))
      = bigSep Finset.univ fun c : Dev nD => bigSep Finset.univ fun t : Fin 6 => bigSep Finset.univ fun k : Fin 6 => dutyTok ER (rCell (dst c t k) t k) 0 (0 : Fin 3) := by
    have := deal (F := F) (I := Fin 6 × Fin 6) (fun c x => dst c x.1 x.2) (fun c x => dst_dst c x.1 x.2)
      fun c x => dutyTok ER (rCell c x.1 x.2) 0 (0 : Fin 3)
    simp only [bigSep_univ_prod] at this
    exact this
  rw [hr, deal (F := F) peer peer_peer fun c d => dutyTok ER (barCell c) 0 d]

section
variable (A : Dev nD → S1536x768.Idx → F .bf16) (B : Dev nD → S768x1536.Idx → F .bf16)

/-- What the launch deals device `c` at first. -/
def G (c : Dev nD) : sProp 𝕄 :=
  iprop((bigSep Finset.univ fun x : Option (Fin 72) => roundState ER (Rd A B) (kcell (c, x)) 0)
    ∗ (bigSep Finset.univ fun x : Option (Fin 72) => iprop(atPos ER (kcell (c, x)) 0 ∅ 0 ∗ reached ER (kcell (c, x)) 0))
    ∗ ownToks c)

/-- What device `c` has once all cells are open. -/
def G' (c : Dev nD) : sProp 𝕄 := iprop(∃ K, records A B K ∗ linear c)

/-- The launch's ghost state is the devices' shares. -/
theorem fund_cells : BI.own (ER (initOf cells duties)) ⊢ (|==> bigSep Finset.univ (G A B) : sProp 𝕄) := by
  have hX (Φ : GSem nD τ sig → sProp 𝕄) : bigSep cells Φ
      = bigSep Finset.univ fun c : Dev nD => bigSep Finset.univ fun x : Option (Fin 72) => Φ (kcell (c, x)) := by
    unfold cells; rw [bigSep_map, bigSep_univ_prod]; rfl
  have hT : bigSep duties (fun x => (dutyTok ER x.1 x.2.1 x.2.2 : sProp 𝕄)) = bigSep Finset.univ fun c : Dev nD => ownToks c := by
    unfold duties; rw [bigSep_map, bigSep_univ_prod]
    refine bigSep_congr fun c _ => ?_
    rw [bigSep_univ_sum]
    exact congrArg (fun X : sProp 𝕄 => iprop((bigSep Finset.univ fun d : Fin 3 => dutyTok ER (barCell c) 0 d) ∗ X))
      (by_sems fun sm => (dutyTok ER ((c : Thread nD τ), sm) 0 (0 : Fin 3) : sProp 𝕄))
  iintro HX
  imod (Rounds.fund ER (Rd A B) cells duties) $$ HX with ⟨Hst, Hr, Hat, Htok⟩
  imodintro
  ihave Hst := (Entails.of_eq (hX fun g => roundState ER (Rd A B) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

omit [FloatOps F] in
/-- The barrier semaphore is the one that is not the kernel's own. -/
theorem unscopedSems0_eq (c : Dev nD) : (unscopedSems0 c : sProp 𝕄) = semVal (barCell c) 0 := by
  unfold unscopedSems0; rw [bigSep_eq_bigSepL_of_eq [SemLoc.reg barSem] (by decide) (by decide)]; rfl

omit [FloatOps F] in
/-- The counters of a device's cells. -/
theorem sems_eq (c : Dev nD) : (bigSep Finset.univ fun x => semVal (kcell (c, x)) 0 : sProp 𝕄)
    = iprop(unscopedSems0 c ∗ Pipeline.ownSems0 (Ix := Unit) (Name := ℕ) (U := UU) (Lvl := ℕ) (Val := Elt F) (τ := τ) osem c) := by
  rw [bigSep_option, unscopedSems0_eq]; rfl

/-- Device `c`'s cells are opened. -/
theorem core_alloc (c : Dev nD) :
    iprop(Pipeline.ownSems0 (Ix := Unit) (Name := ℕ) (U := UU) (Lvl := ℕ) (Val := Elt F) (τ := τ) osem c ∗ unscopedSems0 c ∗ G A B c)
      ⊢ |={Set.univ}=> iprop((bigSep Finset.univ fun x => iprop(∃ κ : ℕ, cellInv ER (Rd A B) κ (kcell (c, x))))
          ∗ (bigSep Finset.univ fun x => iprop(atPos ER (kcell (c, x)) 0 ∅ 0 ∗ reached ER (kcell (c, x)) 0)) ∗ ownToks c) := by
  unfold G
  iintro ⟨Hos, Hus, Hst, Hat, Htok⟩
  ihave Hv := (Entails.of_eq (sems_eq (F := F) c).symm) $$ [Hos Hus]
  · isplitl [Hus] <;> iassumption
  imod (show iprop((bigSep Finset.univ fun x => semVal (kcell (c, x)) 0) ∗ bigSep Finset.univ fun x => roundState ER (Rd A B) (kcell (c, x)) 0)
      ⊢ (|={Set.univ}=> bigSep Finset.univ fun x => iprop(∃ κ : ℕ, cellInv ER (Rd A B) κ (kcell (c, x))) : sProp 𝕄) from by
        rw [← bigSep_sep']
        exact (bigSep_mono fun x _ => (Rounds.body_intro ER (Rd A B) (kcell (c, x))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- A device's positions and the duties dealt to it. -/
theorem linear_intro (c : Dev nD) :
    iprop((bigSep Finset.univ fun x => (atPos ER (kcell (c, x)) 0 ∅ 0 : sProp 𝕄))
        ∗ (bigSep Finset.univ fun d : Fin 3 => dutyTok ER (barCell (peer c d)) 0 d)
        ∗ bigSep Finset.univ fun t => all6 fun k => toks (F := F) c t k)
      ⊢ linear c := by
  rw [by_cells c fun g => (atPos ER g 0 ∅ 0 : sProp 𝕄)]
  unfold linear
  iintro ⟨⟨Hb, Hs, Hr⟩, Hd, Ht⟩
  isplitl [Hd]; · iexact Hd
  isplitl [Ht]; · iexact Ht
  isplitl [Hb]; · iexact Hb
  isplitl [Hs] <;> iassumption

/-- What the opened cells give every device. -/
theorem regroup :
    (bigSep Finset.univ fun c : Dev nD => iprop((bigSep Finset.univ fun x => iprop(∃ κ : ℕ, cellInv ER (Rd A B) κ (kcell (c, x))))
          ∗ (bigSep Finset.univ fun x => iprop(atPos ER (kcell (c, x)) 0 ∅ 0 ∗ reached ER (kcell (c, x)) 0)) ∗ ownToks c) : sProp 𝕄)
      ⊢ bigSep Finset.univ (G' A B) := by
  simp only [bigSep_sep']
  rw [← bigSep_univ_prod (fun x : Dev nD × Option (Fin 72) => iprop(∃ κ : ℕ, cellInv ER (Rd A B) κ (kcell x))),
    ← bigSep_univ_prod (fun x : Dev nD × Option (Fin 72) => (reached ER (kcell x) 0 : sProp 𝕄))]
  iintro ⟨HI, ⟨Hat, #HR⟩, Htok⟩
  ihave HK := (BI.bigSep_exists_pi Finset.univ (fun (x : Dev nD × Option (Fin 72)) (κ : ℕ) => (cellInv ER (Rd A B) κ (kcell x) : sProp 𝕄))) $$ HI
  icases HK with ⟨%K, #HI⟩
  ihave Htk := (toks_around (F := F)) $$ Htok
  iapply (bigSep_with (R := records A B K) (Φ := fun c => linear (F := F) c) fun c _ => by
    unfold G'; iintro ⟨H1, H2⟩; iexists K; isplitl [H1] <;> iassumption)
  isplitr
  · unfold records; isplitl; · iexact HI
    iexact HR
  iapply ((Entails.of_eq (bigSep_sep' Finset.univ (fun c : Dev nD => bigSep Finset.univ fun x => (atPos ER (kcell (c, x)) 0 ∅ 0 : sProp 𝕄)) _).symm).trans
    (bigSep_mono fun c _ => linear_intro (F := F) c))
  isplitl [Hat]; · iexact Hat
  iexact Htk

/-- All cells of all devices are opened at once. -/
theorem glob : (bigSep Finset.univ fun c => iprop(Pipeline.ownSems0 (Ix := Unit) (Name := ℕ) (U := UU) (Lvl := ℕ) (Val := Elt F) (τ := τ) osem c ∗ unscopedSems0 c ∗ G A B c) : sProp 𝕄)
    ⊢ |={Set.univ}=> bigSep Finset.univ (G' A B) :=
  ((bigSep_mono fun c _ => core_alloc A B c).trans (bigSep_fupd _ _)).trans (BI.fupd_mono (regroup A B))

end

/-! ## The credit -/

theorem bar_inj {a b : Dev nD} (h : barCell a = barCell b) : a = b := congrArg (fun g : GSem nD τ sig => g.1.1) h

/-- Only the partner for bit `d` owes device `c`'s barrier the unit of bit `d`. -/
theorem owed_sig (c : Dev nD) (d : Fin 3) : ∑ p : Dev nD, tallyAt (Ix := Unit) (barCell (peer p d)) () 1 (barCell c) () = 1 := by
  rw [Finset.sum_eq_single (peer c d)]
  · rw [peer_peer, tallyAt_apply, if_pos ⟨rfl, rfl⟩]
  · intro p _ hp
    rw [tallyAt_apply, if_neg fun h => hp (by rw [bar_inj h.1, peer_peer])]
  · exact fun h => absurd (Finset.mem_univ _) h

theorem Ow_bar (p c : Dev nD) : Ow p 0 (barCell c) () = 0 := by
  by_contra h
  have := (Ow_pos (Nat.pos_of_ne_zero h)).2
  exact absurd this (by show ¬ 0 + 2 ≤ 1; omega)

theorem sum_bar (c : Dev nD) : ∑ p : Dev nD, O₀ p (barCell c) () = 3 := by
  have h : ∀ p : Dev nD, O₀ p (barCell c) () = tallyAt (Ix := Unit) (barCell (peer p 2)) () 1 (barCell c) ()
      + tallyAt (Ix := Unit) (barCell (peer p 1)) () 1 (barCell c) () + tallyAt (Ix := Unit) (barCell (peer p 0)) () 1 (barCell c) () := fun p => by
    unfold O₀ O₂ O₁
    simp only [Pi.add_apply, Finsupp.add_apply, Ow_bar, Nat.zero_add]
  rw [Finset.sum_congr rfl fun p _ => h p, Finset.sum_add_distrib, Finset.sum_add_distrib, owed_sig, owed_sig, owed_sig]

theorem rCell_inj {a b : Dev nD} {t t' k k' : Fin 6} (h : rCell a t k = rCell b t' k') : a = b ∧ cix t k = cix t' k' := by
  refine ⟨congrArg (fun g : GSem nD τ sig => g.1.1) h, ?_⟩
  have h2 : (rSemE (cix t k)).val = (rSemE (cix t' k')).val :=
    congrArg (fun g : GSem nD τ sig => match g.2 with | .dma q => q.val | .reg _ => 0) h
  rw [rSem_val, rSem_val] at h2
  exact Fin.ext (by omega)

theorem cix_of (j : Fin 36) : cix (tOf j.val) (kOf j.val) = j :=
  Fin.ext (by have := j.isLt; show 6 * (j.val / 6 % 6) + j.val % 6 = j.val; omega)

/-- Device `p` owes an arrival cell the credit of the one copy that goes there. -/
theorem Ow_rcv (p c : Dev nD) (t k : Fin 6) : Ow p 0 (rCell c t k) () = if p = dst c t k then amt (sOf t) else 0 := by
  unfold Ow
  rw [Finset.filter_true_of_mem (fun j _ => Nat.zero_le _), Finset.sum_apply, Finsupp.finset_sum_apply,
    Finset.sum_eq_single (cix t k)]
  · rw [due_cix, tallyAt_apply]
    by_cases h : p = dst c t k
    · subst h; rw [dst_dst, if_pos ⟨rfl, rfl⟩, if_pos rfl]
    · rw [if_neg h, if_neg fun h' => h (by rw [(rCell_inj h'.1).1, dst_dst])]
  · intro j _ hj
    unfold due
    rw [tallyAt_apply, if_neg fun h' => hj ((rCell_inj h'.1).2.trans (cix_of j)).symm]
  · exact fun h => absurd (Finset.mem_univ _) h

theorem sum_rcv (c : Dev nD) (t k : Fin 6) : ∑ p : Dev nD, O₀ p (rCell c t k) () = amt (sOf t) := by
  have hb : ∀ q : Dev nD, tallyAt (Ix := Unit) (barCell q) () 1 (rCell c t k) () = 0 := fun q => by
    rw [tallyAt_apply, if_neg fun h => absurd (congrArg Prod.snd h.1) (by intro h; cases h)]
  have h : ∀ p : Dev nD, O₀ p (rCell c t k) () = if p = dst c t k then amt (sOf t) else 0 := fun p => by
    unfold O₀ O₂ O₁
    simp only [Pi.add_apply, Finsupp.add_apply, hb, Nat.add_zero]
    exact Ow_rcv p c t k
  rw [Finset.sum_congr rfl fun p _ => h p, Finset.sum_ite_eq' Finset.univ (dst c t k) fun _ => amt (sOf t), if_pos (Finset.mem_univ _)]

omit [FloatOps F] in
theorem launch_credit (g : GSem nD τ sig) (n : ℕ) (h : ∑ p : Dev nD, O₀ p g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

omit [FloatOps F] in
/-- The credit that device `c` has from the launch. -/
theorem creds (c : Dev nD) : (Pipeline.launchCred O₀ c : sProp 𝕄) ⊢ credits c := by
  unfold Pipeline.launchCred credits
  refine (bigSep_subset (Finset.subset_univ (Finset.univ.map ⟨csem, csem_injective⟩))).trans ?_
  rw [bigSep_map]
  refine (Entails.of_eq (by_cells c fun g => (cred (tallyOn g (launchCredit (Pipeline.owing O₀) 0 g)) : sProp 𝕄))).trans ?_
  rw [launch_credit _ 3 (sum_bar c)]
  iintro ⟨Hb, -, Hr⟩
  isplitl [Hb]; · iexact Hb
  iapply (Entails.of_eq (bigSep_congr fun t _ => bigSep_congr fun k _ => congrArg cred (launch_credit (rCell c t k) _ (sum_rcv c t k)))) $$ Hr

end Cert.KProof
-- ==== Proof.Launch.lean ====
/-
The run of the whole program: eight devices, from any memory with all counters at zero.
-/
module

public import proofs.«01_k».proof.Proof.Ghost
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs

@[expose] public section

noncomputable section

namespace Cert.KProof

open Cert.KernelIdeal Cert.KernelIdeal.Gen
open Idealize.ShloMosaic Idealize.ShloMosaic.ValueIdx
open Idealize.ShloMosaic.TcCoe
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The memory at launch. -/
def s₀ : MemSt nD τ sig (Elt F) := ⟨m, fun _ => 0, ρ⟩

/-- Device `c`'s block of the left operand. -/
def opA (c : Dev nD) : S1536x768.Idx → F .bf16 :=
  (win0_0.blk (0 : Fin 1)).view.read (Elt F) (m ((c : Thread nD τ).loc main_arg0))
/-- Device `c`'s block of the right operand. -/
def opB (c : Dev nD) : S768x1536.Idx → F .bf16 :=
  (win0_1.blk (0 : Fin 1)).view.read (Elt F) (m ((c : Thread nD τ).loc main_arg1))

/-! ## The staged call's data -/

/-- What the body of device `c` starts from, besides its buffers. -/
def start (c : Dev nD) : sProp 𝕄 := iprop(G' (opA m) (opB m) c ∗ credits c ∗ levAts L lv)

/-- The scratch buffers of device `c`, with any contents. -/
def scratch (c : Dev nD) : sProp 𝕄 :=
  iprop((∃ g, a2Pt (F := F) c g) ∗ (∃ g, b2Pt (F := F) c g) ∗ rsAny (F := F) c Finset.univ)

def Φ₀ (c : Dev nD) : sProp 𝕄 := iprop(start m c ∗ scratch c)
def Φ₁ (c : Dev nD) : sProp 𝕄 := iprop(scratch c ∗ bigSep Finset.univ fun x => semVal (kcell (c, x)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => opA m c
    | ⟨1, _⟩ => opB m c
    | ⟨2, _⟩ => Gf (opA m) (opB m)
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem owns_staged (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer of device `c` with contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body's obligation -/

def bodyPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ c ∗ (dats m ρ 0 c).owesAt () t0_0.succ ∗ stg c cc0_stg0_0 (opA m c) ∗ stg c cc0_stg1_0 (opB m c)
    ∗ stg c cc0_stg2_0 (Gf (opA m) (opB m)))

/-- What the body ends with makes what the staged call asks for. -/
theorem exit (K : Dev nD × Option (Fin 72) → ℕ) (c : Dev nD) :
    iprop(glo (opA m) (opB m) K
        ∗ (OW c 0 ∗ aPt c (opA m c) ∗ bPt c (opB m c) ∗ outPt c Finset.univ fullShare (Gf (opA m) (opB m)))
        ∗ scratch c
        ∗ atPos ER (barCell c) (0 + 1) ∅ 0
        ∗ (bigSep Finset.univ fun t => all6 fun k => atPos ER (sCell c t k) (0 + 1) ∅ 0)
        ∗ bigSep Finset.univ fun t => all6 fun k => atPos ER (rCell c t k) (0 + 1) ∅ 0)
      ⊢ |={Set.univ}=> bodyPost m ρ c := by
  iintro ⟨HG, ⟨HO, Ha, Hb, Hout⟩, Hscr, Hp⟩
  imod (close_all (opA m) (opB m) K c) $$ [HG Hp] with Hz
  · isplitl [HG] <;> iassumption
  imodintro
  unfold bodyPost Φ₁ Dat.owesAt Pipeline.owesWithin OW aPt bPt outPt
  rw [show (dats m ρ 0 c).owed t0_0.succ = 0 from rfl]
  icases HO with ⟨%W, HO⟩
  isplitl [Hscr Hz]
  · isplitl [Hscr] <;> iassumption
  isplitl [HO]
  · iexists W
    isplitr; · ipureintro; exact fun _ _ => Or.inl trivial
    iexact HO
  isplitl [Ha]
  · iexists _; isplitr; · (ipureintro; rfl)
    iexact Ha
  isplitl [Hb]
  · iexists _; isplitr; · (ipureintro; rfl)
    iexact Hb
  iexists _; isplitr; · (ipureintro; rfl)
  iexact Hout

/-- A run may end with an update. -/
theorem Tr.upd {c : Dev nD} {p : Pr F} {P Q Q' : sProp 𝕄} (h : Tr c P p Q) (h' : Q ⊢ |={Set.univ}=> Q') : Tr c P p Q' :=
  BIBase.Entails.trans h ((wp_mono _ _ _ fun _ => h').trans (wp_fupd _ _ _ p fun _ => Q'))

/-- The body, from what the staged call gives to what it asks for. -/
theorem body_run (c : Dev nD) : bodyPre m ρ c ⊢ Wp c (prog c) fun _ => bodyPost m ρ c := by
  have ht (K) (f f') := (prog_tr (opA m) (opB m) K c f f').frame (glo (opA m) (opB m) K)
  unfold bodyPre Φ₀ start G' scratch Dat.owesAt Pipeline.owesWithin
  iintro ⟨⟨⟨⟨%K, #HR, Hlin⟩, Hcr, #Hlev⟩, ⟨%f, Ha2⟩, ⟨%f', Hb2⟩, Hrs⟩, ⟨%W, %hW, HO⟩, ⟨%d0, %g0, %hg0, Ha⟩, ⟨%d1, %g1, %hg1, Hb⟩, ⟨%d2, %g2, %hg2, Hout⟩⟩
  have h0 : g0 = opA m c := by rw [hg0]; unfold Dat.before; rw [if_pos (fetch0_0 t0_0)]; rfl
  have h1 : g1 = opB m c := by rw [hg1]; unfold Dat.before; rw [if_pos (fetch0_1 t0_0)]; rfl
  subst h0 h1
  rw [show (dats m ρ 0 c).owed t0_0.castSucc = O₀ c from rfl]
  have hx := exit m ρ K c
  unfold scratch at hx
  have hr := Tr.upd (ht K f f') (BIBase.Entails.trans (by
    iintro ⟨⟨H1, H2, H3⟩, HG⟩
    isplitl [HG]; · iexact HG
    isplitl [H1]; · iexact H1
    isplitl [H2]; · iexact H2
    iexact H3) hx)
  unfold Tr at hr
  iapply hr
  isplitl
  · isplitr
    · unfold glo; isplitr; · iexact HR
      iexact Hlev
    isplitl [HO]; · unfold OW; iexists W; iexact HO
    isplitl [Hlin]; · iexact Hlin
    isplitl [Hcr]; · iexact Hcr
    isplitl [Ha]; · unfold aPt; iexact Ha
    isplitl [Hb]; · unfold bPt; iexact Hb
    isplitl [Ha2]; · iexact Ha2
    isplitl [Hb2]; · iexact Hb2
    isplitl [Hout]
    · unfold outAny outPt; iexists g2; iexact Hout
    iexact Hrs
  unfold glo; isplitr; · iexact HR
  iexact Hlev

set_option maxRecDepth 100000 in
/-- The staged call's body does what its data say. -/
theorem body_obligation (c : Dev nD) : BodyObligation (dats (F := F) m ρ 0 c) (defs₀ (F := F)) 𝒱₀ () Set.univ := fun t => by
  rw [fin_N0 t]
  rw [bigSep_W0, bigSep_W0]
  simp only [owns_staged]
  show bodyPre m ρ c ⊢ Wp c (cc0_body aM (Memref.isWhole_whole _) bM (Memref.isWhole_whole _) outM (Memref.isWhole_whole _)
    a2M (Memref.isWhole_whole _) b2M (Memref.isWhole_whole _) rsM (Memref.isWhole_whole _) cc0_scratch3 cc0_scratch4) fun _ => bodyPost m ρ c
  rw [body_eq]
  simp only [Prog.lift, Prog.bind_op, Prog.bind_ret, wp_deviceId]
  exact body_run m ρ c

/-! ## The side conditions of the launch -/

theorem ownSemFacts : Pipeline.OwnSemFacts cfg0.spec osem := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (opA m) (opB m) c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc] <;> iassumption
  · iempintro

omit [FloatOps F] in
/-- The scratch buffers are those the launch hands over. -/
theorem scratch_eq (c : Dev nD) : (Pipeline.scopedRest cfg0.spec c : sProp 𝕄) = scratch c := by
  rw [scopedRest0_eq]; rfl

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scratch_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scratch_eq]
  unfold Φ₁; rw [sems_eq]
  iintro ⟨Hr, Hu, Ho⟩
  isplitl [Hu]; · iexact Hu
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What the array of window `w` holds at the end, on device `c`. -/
def finalA (c : Dev nD) (w : Fin cfg0.W) : Buf (Elt F) ((cfg0.win w).arr.view.loc (c : Thread nD τ)) := (dats m ρ 0 c).arrAt w cfg0.N

set_option maxRecDepth 100000 in
/-- From any memory with all counters at zero, every fair execution ends, with the windows' arrays at their final
    contents on every device and all counters at zero. -/
theorem run_windows : θ_run defs (onTc (τ := τ) (main (F := F))) (s₀ m ρ)
    (fun r => (∀ c : Dev nD, ∀ w : Fin cfg0.W, r.2.mem ((cfg0.win w).arr.view.loc (c : Thread nD τ)) = finalA m ρ c w)
      ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (opA m) (opB m)) (G' := G' (opA m) (opB m)) (u₀ := u₀)
    (hu₀ := by
      unfold u₀
      iintro Hu
      ihave H := (ownU_pair _ _) $$ Hu
      icases H with ⟨HP, HX⟩
      imod (fund_cells (opA m) (opB m)) $$ HX with HG
      imodintro
      isplitl [HP] <;> iassumption)
    (hglob := glob (opA m) (opB m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The one block of a window starts at zero. -/
theorem win_zero (w : Fin 3) : (fun a => (win0 w).index t0_0 a * (win0 w).block.size a) = fun _ => 0 := by
  fin_cases w <;> exact funext fun a => Nat.zero_mul _

omit [FloatOps F] in
theorem opA_eq (c : Dev nD) : opA m c = m ((c : Thread nD τ).loc main_arg0) :=
  Memref.read_access_unit_zero (Elt F) main_arg0 (win_zero 0) _ _
omit [FloatOps F] in
theorem opB_eq (c : Dev nD) : opB m c = m ((c : Thread nD τ).loc main_arg1) :=
  Memref.read_access_unit_zero (Elt F) main_arg1 (win_zero 1) _ _

/-- The result array holds what the body left in its staging buffer. -/
theorem finalA_out (c : Dev nD) : finalA m ρ c (2 : Fin 3) = Gf (opA m) (opB m) := by
  unfold finalA
  rw [show cfg0.N = t0_0.val + 1 from rfl, (dats m ρ 0 c).arrAt_succ (2 : Fin 3) t0_0]
  rw [flush0_2, if_pos rfl]
  exact Memref.write_access_unit_zero_univ (Elt F) main_v1 (win_zero 2) _ _ _

/-- The same, array by array. -/
theorem run_main : θ_run defs (onTc (τ := τ) (main (F := F))) (s₀ m ρ)
    (fun r => (∀ c : Dev nD,
        r.2.mem ((c : Thread nD τ).loc main_v1) = Gf (fun d => m ((d : Thread nD τ).loc main_arg0)) (fun d => m ((d : Thread nD τ).loc main_arg1))
        ∧ r.2.mem ((c : Thread nD τ).loc main_arg0) = m ((c : Thread nD τ).loc main_arg0)
        ∧ r.2.mem ((c : Thread nD τ).loc main_arg1) = m ((c : Thread nD τ).loc main_arg1))
      ∧ r.2.sem = fun _ => 0) :=
  (θ_run defs _ _).mono (fun _ h => ⟨fun c => ⟨(h.1 c (2 : Fin 3)).trans ((finalA_out m ρ c).trans
      (congrArg₂ Gf (funext (opA_eq m)) (funext (opB_eq m)))),
    (h.1 c (0 : Fin 3)).trans ((dats m ρ 0 c).arrAt_in (0 : Fin 3) rfl _),
    (h.1 c (1 : Fin 3)).trans ((dats m ρ 0 c).arrAt_in (1 : Fin 3) rfl _)⟩, h.2⟩) (run_windows m ρ)

end Cert.KProof
-- ==== Proof.Value.lean ====
/-
The value: over the extended reals, the element every device ends with is the activation of one element of the
product of the whole operands.
-/
module

public import proofs.«01_k».proof.Proof.Content
public import Idealize.ShloMosaic.Lib.MatmulPlain
public import Idealize.ShloMosaic.Lib.StackMember
public import Idealize.ShloMosaic.Lib.Layout

@[expose] public section

noncomputable section

namespace Cert.KProof

open Cert.KernelIdeal Cert.KernelIdeal.Gen
open Idealize.ShloMosaic Idealize.ShloMosaic.ValueIdx
open scoped BigOperators

/-! ## The payloads over the extended reals -/

/-- The activation of a number. -/
def act (z : EReal) : EReal :=
  (Ideal.ofBits .f32 0x3F000000#32 * z)
    * (Ideal.ofBits .f32 0x3F800000#32
      + Ideal.tanh (Ideal.ofBits .f32 0x3F4C422A#32 * (z + Ideal.ofBits .f32 0x3D372713#32 * z * z * z)))

theorem gelu1_eq (a b : Ideal .bf16) : gelu1 a b = act (a + b) := by
  unfold gelu1 geluPay k0_pay44; simp only [shapeCast_self]; rfl

theorem add1_eq (a b : Ideal .bf16) : add1 a b = (a + b : EReal) := by
  unfold add1 addPay; rw [shapeCast_self]; rfl

/-- An element of the product of two blocks. -/
theorem prod1_eq (a : S1536x768.Idx → Ideal .bf16) (b : S768x1536.Idx → Ideal .bf16) (i : S1536x1536.Idx) :
    prod1 a b i = ∑ k : Fin 768, (a (ix2 (i 0) k) * b (ix2 k (i 1)) : EReal) := by
  have h0 : (i 0).val < 1536 := (i 0).isLt
  have h1 : (i 1).val < 1536 := (i 1).isLt
  refine (Ideal.matmul_plain_apply (M := 768) (K := 768) (N := 256) (φ₁ := .bf16) (φ₂ := .bf16) none (rowsOf a ((i 0).val / 768)) (colsOf b ((i 1).val / 256))
    (constant (F := Ideal) ⟨2, ![768, 256]⟩ .f32 0x00000000#32) ⟨(i 0).val % 768, Nat.mod_lt _ (by decide)⟩
    ⟨(i 1).val % 256, Nat.mod_lt _ (by decide)⟩).trans ?_
  rw [show constant (F := Ideal) ⟨2, ![768, 256]⟩ .f32 0x00000000#32 (ix2 ⟨(i 0).val % 768, Nat.mod_lt _ (by decide)⟩
    ⟨(i 1).val % 256, Nat.mod_lt _ (by decide)⟩) = (0 : EReal) from Ideal.ofBits_zero_f32, zero_add]
  refine Finset.sum_congr rfl fun k _ => ?_
  have e0 : (⟨(768 * ((i 0).val / 768) + (i 0).val % 768) % 1536, Nat.mod_lt _ (by decide)⟩ : Fin 1536) = i 0 :=
    Fin.ext (by show _ % 1536 = (i 0).val; rw [Nat.div_add_mod, Nat.mod_eq_of_lt h0])
  have e1 : (⟨(256 * ((i 1).val / 256) + (i 1).val % 256) % 1536, Nat.mod_lt _ (by decide)⟩ : Fin 1536) = i 1 :=
    Fin.ext (by show _ % 1536 = (i 1).val; rw [Nat.div_add_mod, Nat.mod_eq_of_lt h1])
  exact congrArg₂ (fun x y : EReal => x * y) (congrArg (fun x => a (ix2 x k)) e0) (congrArg (fun x => b (ix2 k x)) e1)

/-! ## The sum over the devices -/

/-- A device, its partners, their partners: all devices, in every chunk's order. -/
theorem mesh (c : Dev nD) (k : Fin 6) : (Finset.univ : Finset (Dev nD)).val
    = ↑[c, par c k 0, par c k 1, par (par c k 1) k 0, par c k 2, par (par c k 2) k 0, par (par c k 2) k 1,
        par (par (par c k 2) k 1) k 0] := by
  revert c k; decide +kernel

/-- Three exchanges sum over all devices. -/
theorem exchange_sum (f : Dev nD → EReal) (c : Dev nD) (k : Fin 6) :
    (f c + f (par c k 0) + (f (par c k 1) + f (par (par c k 1) k 0)))
        + (f (par c k 2) + f (par (par c k 2) k 0) + (f (par (par c k 2) k 1) + f (par (par (par c k 2) k 1) k 0)))
      = ∑ d : Dev nD, f d := by
  unfold Finset.sum
  rw [mesh c k]
  simp only [Multiset.map_coe, Multiset.sum_coe, List.map_cons, List.map_nil, List.sum_cons, List.sum_nil, add_zero]
  simp only [add_assoc]

section
variable (A : Dev nD → S1536x768.Idx → Ideal .bf16) (B : Dev nD → S768x1536.Idx → Ideal .bf16)

/-- The finished element is the activation of the sum of all devices' products. -/
theorem Gf_eq (i : S1536x1536.Idx) :
    Gf A B i = act (∑ d : Dev nD, ∑ k : Fin 768, (A d (ix2 (i 0) k) * B d (ix2 k (i 1)) : EReal)) := by
  unfold Gf Gl P2 P1
  simp only [gelu1_eq, add1_eq]
  refine congrArg act ((exchange_sum (P0 A B · i) _ _).trans (Finset.sum_congr rfl fun d _ => ?_))
  exact prod1_eq _ _ i

end

/-! ## The whole operands -/

/-- A sum over all columns is the sum over the devices' blocks of columns. -/
theorem sum_blocks (g : Fin 6144 → EReal) :
    ∑ d : Fin 8, ∑ k : Fin 768, g ⟨d.val * 768 + k.val, by omega⟩ = ∑ j : Fin 6144, g j := by
  refine Eq.trans ?_ (Equiv.sum_comp (finProdFinEquiv (m := 8) (n := 768)) g)
  rw [Fintype.sum_prod_type]
  refine Finset.sum_congr rfl fun d _ => Finset.sum_congr rfl fun k _ => congrArg g (Fin.ext ?_)
  show d.val * 768 + k.val = k.val + 768 * d.val
  omega

/-- From the blocks of two whole operands, the finished element is the activation of the whole product's element. -/
theorem Gf_blocks (A : (⟨2, ![1536, 6144]⟩ : Shape).Idx → EReal) (B : (⟨2, ![6144, 1536]⟩ : Shape).Idx → EReal)
    (i : S1536x1536.Idx) :
    Gf (F := Ideal) (fun c => Layout.block ⟨2, ![1536, 768]⟩ ⟨2, ![1536, 6144]⟩ 1 8 c A)
        (fun c => Layout.block ⟨2, ![768, 1536]⟩ ⟨2, ![6144, 1536]⟩ 0 8 c B) i
      = act (∑ j : Fin 6144, A (ix2 (i 0) j) * B (ix2 j (i 1))) := by
  refine (Gf_eq _ _ i).trans (congrArg act ?_)
  refine Eq.trans ?_ (sum_blocks fun j => A (ix2 (i 0) j) * B (ix2 j (i 1)))
  refine Finset.sum_congr rfl fun d _ => Finset.sum_congr rfl fun k _ => congrArg₂ (fun x y : EReal => x * y) ?_ ?_
  · exact congrArg A (funext fun a => by fin_cases a <;> rfl)
  · exact congrArg B (funext fun a => by fin_cases a <;> rfl)

end Cert.KProof
-- ==== Proof.lean ====
/-
The certificate: the three programs run and end quiet, and over the extended reals every device of the kernel ends
with the reference's result.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.ShloMosaic.ValueIdx Idealize.SL.Sem

/-- The idealization replaced nothing: the two programs' body tables agree, label by label. -/
theorem bodies_eq {F : FTy → Type} [FloatOps F] : @Cert.Kernel.defs₀ F _ _ = @Cert.KernelIdeal.defs₀ F _ _ := by
  unfold Cert.Kernel.defs₀ Cert.KernelIdeal.defs₀
  refine congrArg Defs.onTc (funext fun l => funext fun x => ?_)
  match l, x with
  | 0, (t, s) => rfl

/-- And so do their whole tables. -/
theorem defs_eq {F : FTy → Type} [FloatOps F] : @Cert.Kernel.defs F _ _ = @Cert.KernelIdeal.defs F _ _ :=
  congrArg (Pipeline.defs _) bodies_eq

/-- The program's text at any float values and under any table equal to its own: its arguments end unchanged, its
    counters at zero. -/
theorem frame_text {F : FTy → Type} [FloatOps F]
    {D : Defs Cert.KernelIdeal.nD Cert.KernelIdeal.τ Cert.KernelIdeal.sig (Elt F)
      (Pipeline.Sig Cert.KernelIdeal.Λ₀ (Fin 1) fun p => (Cert.KernelIdeal.pcfgs (F := F) p).Adm)}
    (hD : D = Cert.KernelIdeal.defs)
    (m : (ℓ : Loc Cert.KernelIdeal.nD Cert.KernelIdeal.τ Cert.KernelIdeal.sig) → Buf (Elt F) ℓ) (g : Dev Cert.KernelIdeal.nD → PrngReg) :
    θ_run D (onTc (τ := Cert.KernelIdeal.τ) (Cert.KernelIdeal.main (F := F))) ⟨m, fun _ => 0, g⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) := by
  subst hD
  exact (θ_run Cert.KernelIdeal.defs _ _).mono (fun _ h => ⟨fun c => (h.1 c).2, h.2⟩) (Cert.KProof.run_main m g)

set_option maxRecDepth 100000 in
/-- The kernel's frame. -/
theorem frame_kernel : Cert.quiescent_Kernel := fun m g _ => frame_text (F := Bits) defs_eq m g

/-- The idealized kernel's frame. -/
theorem frame_kernelIdeal : Cert.quiescent_KernelIdeal := fun m g _ => frame_text (F := Ideal) rfl m g

/-- The reference's frame. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- An element of the reference's product. -/
theorem product_apply (A : FVec Ideal ⟨2, ![1536, 6144]⟩ .bf16) (B : FVec Ideal ⟨2, ![6144, 1536]⟩ .bf16)
    (i : (⟨2, ![1536, 1536]⟩ : Shape).Idx) :
    Host.dotGeneral (F := Ideal) (DotDims.plain 1536 6144 1536) none A B i = ∑ j : Fin 6144, (A (ix2 (i 0) j) * B (ix2 j (i 1)) : EReal) := by
  have h : i = ix2 (i 0) (i 1) := funext fun a => by fin_cases a <;> rfl
  exact (congrArg (Host.dotGeneral (F := Ideal) (DotDims.plain 1536 6144 1536) none A B) h).trans
    (StackMember.dotGeneral_plain_apply none A B (i 0) (i 1))

set_option maxRecDepth 100000 in
/-- Every device ends with the reference's result. -/
theorem algebraic : Cert.algebraic_KernelIdeal_ReferenceIdeal := by
  intro m g m' g' _ hin
  refine ⟨_, (θ_run Cert.KernelIdeal.defs _ _).mono (fun _ h => h.1) (Cert.KProof.run_main (F := Ideal) m g),
    (θ_run Cert.ReferenceIdeal.defs _ _).mono (fun _ h => ⟨(h 0).1.trans ?_, (h 0).2⟩) (Cert.ReferenceIdeal.Value.run (F := Ideal) m' g')⟩
  funext i
  refine Eq.trans (b := Cert.KProof.act (Host.dotGeneral (F := Ideal) (DotDims.plain 1536 6144 1536) none
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)) i)) rfl ?_
  rw [product_apply]
  refine Eq.trans (Cert.KProof.Gf_blocks _ _ i).symm ?_
  exact congrFun (congrArg₂ Cert.KProof.Gf (funext fun c => (hin c).1.symm) (funext fun c => (hin c).2.symm)) i

theorem claim : Cert.Claim :=
  ⟨Cert.Kernel.Gen.facts, Cert.KernelIdeal.Gen.facts, Cert.ReferenceIdeal.Gen.facts, frame_kernel, frame_kernelIdeal,
    frame_reference, trivial, algebraic⟩

end Cert.Proof

end
